-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_products_exact_KernelIdeal [hPre_products_exact_KernelIdeal : Cert.Pre_products_exact_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_products_exact_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_products_exact_ReferenceIdeal [hPre_products_exact_ReferenceIdeal : Cert.Pre_products_exact_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_products_exact_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_products_exact_KernelIdeal [hKernelIdeal : Cert.KernelIdeal.Facts] [hPre_products_exact_KernelIdeal : Cert.Pre_products_exact_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_products_exact_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_products_exact_ReferenceIdeal [hReferenceIdeal : Cert.ReferenceIdeal.Facts] [hPre_products_exact_ReferenceIdeal : Cert.Pre_products_exact_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_products_exact_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_products_exact_KernelIdeal [hKernelIdeal : Cert.KernelIdeal.Facts] [hReferenceIdeal : Cert.ReferenceIdeal.Facts] [hPre_products_exact_KernelIdeal : Cert.Pre_products_exact_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_products_exact_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_products_exact_KernelIdeal : Cert.Pre_products_exact_KernelIdeal.Facts) (hPre_products_exact_ReferenceIdeal : Cert.Pre_products_exact_ReferenceIdeal.Facts),
    quiescent_Kernel (hKernel := hKernel)
    ∧ quiescent_KernelIdeal (hKernelIdeal := hKernelIdeal)
    ∧ quiescent_KernelIdeal_pre_products_exact_KernelIdeal (hKernelIdeal := hKernelIdeal) (hPre_products_exact_KernelIdeal := hPre_products_exact_KernelIdeal)
    ∧ quiescent_ReferenceIdeal (hReferenceIdeal := hReferenceIdeal)
    ∧ quiescent_ReferenceIdeal_pre_products_exact_ReferenceIdeal (hReferenceIdeal := hReferenceIdeal) (hPre_products_exact_ReferenceIdeal := hPre_products_exact_ReferenceIdeal)
    ∧ preserves_Kernel_KernelIdeal
    ∧ algebraic_KernelIdeal_ReferenceIdeal_pre_products_exact_KernelIdeal (hKernelIdeal := hKernelIdeal) (hReferenceIdeal := hReferenceIdeal) (hPre_products_exact_KernelIdeal := hPre_products_exact_KernelIdeal)
-- ==== Pre_products_exact_KernelIdeal.lean ====
abbrev S4096x128 : Shape := ⟨2, ![4096, 128]⟩
abbrev S4096x8192 : Shape := ⟨2, ![4096, 8192]⟩
abbrev S1 : Shape := ⟨1, ![1]⟩
abbrev S_ : Shape := ⟨0, ![]⟩
abbrev S4096 : Shape := ⟨1, ![4096]⟩

class Facts : Prop where
  natLt_8_32 : 8 < 32
  reducesTo_S4096x128_S4096_d1 : S4096x128.ReducesTo [1] S4096
  h_S_ : 0 < S_.numel
  reducesTo_S4096x8192_S_d0_1 : S4096x8192.ReducesTo [0, 1] S_
  bcast_S_S4096 : S_.BroadcastsInDim S4096 (![] : Fin 0 → Fin S4096.rank)

variable [Facts]

def fn {F : FTy → Type} [FloatOps F] (main_arg0 : IVec S4096x128 8) (main_arg1 : IVec S4096x8192 8) (main_arg2 : FVec F S1 .f32) (main_arg3 : FVec F S1 .f32) : IVec S4096 1 :=
  let main_v0 : IVec S4096x128 32 := (extsi 32 · natLt_8_32) main_arg0
  let main_v1 : IVec S4096x128 32 := absi main_v0
  let main_c : IVec S_ 32 := constantI S_ 32 0#32
  let main_v2 : IVec S4096 32 := (fun x v => Host.reduce IntOp.addi x v reducesTo_S4096x128_S4096_d1 h_S_) main_v1 main_c
  let main_v3 : IVec S4096x8192 32 := (extsi 32 · natLt_8_32) main_arg1
  let main_v4 : IVec S4096x8192 32 := absi main_v3
  let main_c_0 : IVec S_ 32 := constantI S_ 32 2147483648#32
  let main_v5 : IVec S_ 32 := (fun x v => Host.reduce IntOp.maxsi x v reducesTo_S4096x8192_S_d0_1 h_S_) main_v4 main_c_0
  let main_v6 : IVec S4096 32 := broadcastInDim S4096 ![] bcast_S_S4096 main_v5
  let main_v7 : IVec S4096 32 := muli main_v2 main_v6
  let main_c_1 : IVec S_ 32 := constantI S_ 32 524287#32
  let main_v8 : IVec S4096 32 := broadcastInDim S4096 ![] bcast_S_S4096 main_c_1
  let main_v9 : IVec S4096 1 := cmpi .sle main_v7 main_v8
  main_v9
-- ==== Pre_products_exact_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩
abbrev S4096 : Shape := ⟨1, ![4096]⟩

class Facts : Prop where
  natLt_8_32 : 8 < 32
  reducesTo_S4096x4096_S4096_d1 : S4096x4096.ReducesTo [1] S4096
  h_S_ : 0 < S_.numel
  reducesTo_S4096x8192_S_d0_1 : S4096x8192.ReducesTo [0, 1] S_
  bcast_S_S4096 : S_.BroadcastsInDim S4096 (![] : Fin 0 → Fin S4096.rank)

variable [Facts]

def fn {F : FTy → Type} [FloatOps F] (main_arg0 : IVec S4096x4096 8) (main_arg1 : IVec S4096x8192 8) (main_arg2 : FVec F S1 .f32) (main_arg3 : FVec F S1 .f32) : IVec S4096 1 :=
  let main_v0 : IVec S4096x4096 32 := (extsi 32 · natLt_8_32) main_arg0
  let main_v1 : IVec S4096x4096 32 := absi main_v0
  let main_c : IVec S_ 32 := constantI S_ 32 0#32
  let main_v2 : IVec S4096 32 := (fun x v => Host.reduce IntOp.addi x v reducesTo_S4096x4096_S4096_d1 h_S_) main_v1 main_c
  let main_v3 : IVec S4096x8192 32 := (extsi 32 · natLt_8_32) main_arg1
  let main_v4 : IVec S4096x8192 32 := absi main_v3
  let main_c_0 : IVec S_ 32 := constantI S_ 32 2147483648#32
  let main_v5 : IVec S_ 32 := (fun x v => Host.reduce IntOp.maxsi x v reducesTo_S4096x8192_S_d0_1 h_S_) main_v4 main_c_0
  let main_v6 : IVec S4096 32 := broadcastInDim S4096 ![] bcast_S_S4096 main_v5
  let main_v7 : IVec S4096 32 := muli main_v2 main_v6
  let main_c_1 : IVec S_ 32 := constantI S_ 32 524287#32
  let main_v8 : IVec S4096 32 := broadcastInDim S4096 ![] bcast_S_S4096 main_c_1
  let main_v9 : IVec S4096 1 := cmpi .sle main_v7 main_v8
  main_v9
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S128x4096 : Shape := ⟨2, ![128, 4096]⟩
abbrev S32 : Shape := ⟨1, ![32]⟩
abbrev S_ : Shape := ⟨0, ![]⟩
abbrev S128x128 : Shape := ⟨2, ![128, 128]⟩

abbrev nBuf : Space → Nat
  | .hbm => 5
  | .vmem => 4
  | .smem => 2
  | _ => 0

abbrev bufTy : (tb : Table) → Fin (tcTables nBuf tb) → BufTy
  | .hbm, ⟨0, _⟩ => ⟨S4096x128, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .i8⟩
  | .local _ .vmem, ⟨1, _⟩ => ⟨S4096x8192, .i8⟩
  | .local _ .vmem, ⟨2, _⟩ => ⟨S128x8192, .f32⟩
  | .local _ .vmem, ⟨3, _⟩ => ⟨S128x4096, .i8⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) : Fin 2 → Nat :=
  let c0_126 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_125 : BitVec 32 := 128#32
  let v132 : BitVec 32 := Scalar.muli v2 c128_i32_125
  let v133 : Index := Scalar.indexCast v132
  ![0, v133.toNat]
def k0_off3 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v140 : BitVec 32 := Scalar.muli v2 c128_i32_130
  ![0, v140.toNat]
def k0_off4 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v137 : BitVec 32 := Scalar.addi v2 c1_i32_127
  let c32_i32_128 : BitVec 32 := 32#32
  let v138 : BitVec 32 := Scalar.remsi v137 c32_i32_128
  let c128_i32_129 : BitVec 32 := 128#32
  let v139 : BitVec 32 := Scalar.muli v138 c128_i32_129
  let c0_i32_136 : BitVec 32 := 0#32
  ![v139.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v137 : BitVec 32 := Scalar.addi v2 c1_i32_127
  let c32_i32_128 : BitVec 32 := 32#32
  let v138 : BitVec 32 := Scalar.remsi v137 c32_i32_128
  let c1_i32_133 : BitVec 32 := 1#32
  let v141 : BitVec 32 := Scalar.muli v138 c1_i32_133
  let v142 : BitVec 32 := Scalar.addi c0_i32_134 v141
  v142.toNat
def k0_dev33 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v149 : BitVec 32 := Scalar.addi v2 c2_i32_137
  let c32_i32_138 : BitVec 32 := 32#32
  let v150 : BitVec 32 := Scalar.remsi v149 c32_i32_138
  let c1_i32_143 : BitVec 32 := 1#32
  let v153 : BitVec 32 := Scalar.muli v150 c1_i32_143
  let v154 : BitVec 32 := Scalar.addi c0_i32_144 v153
  v154.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v161 : BitVec 32 := Scalar.addi v2 c3_i32_147
  let c32_i32_148 : BitVec 32 := 32#32
  let v162 : BitVec 32 := Scalar.remsi v161 c32_i32_148
  let c1_i32_153 : BitVec 32 := 1#32
  let v165 : BitVec 32 := Scalar.muli v162 c1_i32_153
  let v166 : BitVec 32 := Scalar.addi c0_i32_154 v165
  v166.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_157 : BitVec 32 := 4#32
  let v173 : BitVec 32 := Scalar.addi v2 c4_i32_157
  let c32_i32_158 : BitVec 32 := 32#32
  let v174 : BitVec 32 := Scalar.remsi v173 c32_i32_158
  let c1_i32_163 : BitVec 32 := 1#32
  let v177 : BitVec 32 := Scalar.muli v174 c1_i32_163
  let v178 : BitVec 32 := Scalar.addi c0_i32_164 v177
  v178.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v185 : BitVec 32 := Scalar.addi v2 c5_i32_167
  let c32_i32_168 : BitVec 32 := 32#32
  let v186 : BitVec 32 := Scalar.remsi v185 c32_i32_168
  let c1_i32_173 : BitVec 32 := 1#32
  let v189 : BitVec 32 := Scalar.muli v186 c1_i32_173
  let v190 : BitVec 32 := Scalar.addi c0_i32_174 v189
  v190.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v197 : BitVec 32 := Scalar.addi v2 c6_i32_177
  let c32_i32_178 : BitVec 32 := 32#32
  let v198 : BitVec 32 := Scalar.remsi v197 c32_i32_178
  let c1_i32_183 : BitVec 32 := 1#32
  let v201 : BitVec 32 := Scalar.muli v198 c1_i32_183
  let v202 : BitVec 32 := Scalar.addi c0_i32_184 v201
  v202.toNat
def k0_dev38 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_187 : BitVec 32 := 7#32
  let v209 : BitVec 32 := Scalar.addi v2 c7_i32_187
  let c32_i32_188 : BitVec 32 := 32#32
  let v210 : BitVec 32 := Scalar.remsi v209 c32_i32_188
  let c1_i32_193 : BitVec 32 := 1#32
  let v213 : BitVec 32 := Scalar.muli v210 c1_i32_193
  let v214 : BitVec 32 := Scalar.addi c0_i32_194 v213
  v214.toNat
def k0_dev39 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v221 : BitVec 32 := Scalar.addi v2 c8_i32_197
  let c32_i32_198 : BitVec 32 := 32#32
  let v222 : BitVec 32 := Scalar.remsi v221 c32_i32_198
  let c1_i32_203 : BitVec 32 := 1#32
  let v225 : BitVec 32 := Scalar.muli v222 c1_i32_203
  let v226 : BitVec 32 := Scalar.addi c0_i32_204 v225
  v226.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_207 : BitVec 32 := 9#32
  let v233 : BitVec 32 := Scalar.addi v2 c9_i32_207
  let c32_i32_208 : BitVec 32 := 32#32
  let v234 : BitVec 32 := Scalar.remsi v233 c32_i32_208
  let c1_i32_213 : BitVec 32 := 1#32
  let v237 : BitVec 32 := Scalar.muli v234 c1_i32_213
  let v238 : BitVec 32 := Scalar.addi c0_i32_214 v237
  v238.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v245 : BitVec 32 := Scalar.addi v2 c10_i32_217
  let c32_i32_218 : BitVec 32 := 32#32
  let v246 : BitVec 32 := Scalar.remsi v245 c32_i32_218
  let c1_i32_223 : BitVec 32 := 1#32
  let v249 : BitVec 32 := Scalar.muli v246 c1_i32_223
  let v250 : BitVec 32 := Scalar.addi c0_i32_224 v249
  v250.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v257 : BitVec 32 := Scalar.addi v2 c11_i32_227
  let c32_i32_228 : BitVec 32 := 32#32
  let v258 : BitVec 32 := Scalar.remsi v257 c32_i32_228
  let c1_i32_233 : BitVec 32 := 1#32
  let v261 : BitVec 32 := Scalar.muli v258 c1_i32_233
  let v262 : BitVec 32 := Scalar.addi c0_i32_234 v261
  v262.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v269 : BitVec 32 := Scalar.addi v2 c12_i32_237
  let c32_i32_238 : BitVec 32 := 32#32
  let v270 : BitVec 32 := Scalar.remsi v269 c32_i32_238
  let c1_i32_243 : BitVec 32 := 1#32
  let v273 : BitVec 32 := Scalar.muli v270 c1_i32_243
  let v274 : BitVec 32 := Scalar.addi c0_i32_244 v273
  v274.toNat
def k0_dev44 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_247 : BitVec 32 := 13#32
  let v281 : BitVec 32 := Scalar.addi v2 c13_i32_247
  let c32_i32_248 : BitVec 32 := 32#32
  let v282 : BitVec 32 := Scalar.remsi v281 c32_i32_248
  let c1_i32_253 : BitVec 32 := 1#32
  let v285 : BitVec 32 := Scalar.muli v282 c1_i32_253
  let v286 : BitVec 32 := Scalar.addi c0_i32_254 v285
  v286.toNat
def k0_dev45 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_257 : BitVec 32 := 14#32
  let v293 : BitVec 32 := Scalar.addi v2 c14_i32_257
  let c32_i32_258 : BitVec 32 := 32#32
  let v294 : BitVec 32 := Scalar.remsi v293 c32_i32_258
  let c1_i32_263 : BitVec 32 := 1#32
  let v297 : BitVec 32 := Scalar.muli v294 c1_i32_263
  let v298 : BitVec 32 := Scalar.addi c0_i32_264 v297
  v298.toNat
def k0_dev46 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_267 : BitVec 32 := 15#32
  let v305 : BitVec 32 := Scalar.addi v2 c15_i32_267
  let c32_i32_268 : BitVec 32 := 32#32
  let v306 : BitVec 32 := Scalar.remsi v305 c32_i32_268
  let c1_i32_273 : BitVec 32 := 1#32
  let v309 : BitVec 32 := Scalar.muli v306 c1_i32_273
  let v310 : BitVec 32 := Scalar.addi c0_i32_274 v309
  v310.toNat
def k0_dev47 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_277 : BitVec 32 := 16#32
  let v317 : BitVec 32 := Scalar.addi v2 c16_i32_277
  let c32_i32_278 : BitVec 32 := 32#32
  let v318 : BitVec 32 := Scalar.remsi v317 c32_i32_278
  let c1_i32_283 : BitVec 32 := 1#32
  let v321 : BitVec 32 := Scalar.muli v318 c1_i32_283
  let v322 : BitVec 32 := Scalar.addi c0_i32_284 v321
  v322.toNat
def k0_dev48 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_287 : BitVec 32 := 17#32
  let v329 : BitVec 32 := Scalar.addi v2 c17_i32_287
  let c32_i32_288 : BitVec 32 := 32#32
  let v330 : BitVec 32 := Scalar.remsi v329 c32_i32_288
  let c1_i32_293 : BitVec 32 := 1#32
  let v333 : BitVec 32 := Scalar.muli v330 c1_i32_293
  let v334 : BitVec 32 := Scalar.addi c0_i32_294 v333
  v334.toNat
def k0_dev49 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v341 : BitVec 32 := Scalar.addi v2 c18_i32_297
  let c32_i32_298 : BitVec 32 := 32#32
  let v342 : BitVec 32 := Scalar.remsi v341 c32_i32_298
  let c1_i32_303 : BitVec 32 := 1#32
  let v345 : BitVec 32 := Scalar.muli v342 c1_i32_303
  let v346 : BitVec 32 := Scalar.addi c0_i32_304 v345
  v346.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v353 : BitVec 32 := Scalar.addi v2 c19_i32_307
  let c32_i32_308 : BitVec 32 := 32#32
  let v354 : BitVec 32 := Scalar.remsi v353 c32_i32_308
  let c1_i32_313 : BitVec 32 := 1#32
  let v357 : BitVec 32 := Scalar.muli v354 c1_i32_313
  let v358 : BitVec 32 := Scalar.addi c0_i32_314 v357
  v358.toNat
def k0_dev51 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v365 : BitVec 32 := Scalar.addi v2 c20_i32_317
  let c32_i32_318 : BitVec 32 := 32#32
  let v366 : BitVec 32 := Scalar.remsi v365 c32_i32_318
  let c1_i32_323 : BitVec 32 := 1#32
  let v369 : BitVec 32 := Scalar.muli v366 c1_i32_323
  let v370 : BitVec 32 := Scalar.addi c0_i32_324 v369
  v370.toNat
def k0_dev52 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_327 : BitVec 32 := 21#32
  let v377 : BitVec 32 := Scalar.addi v2 c21_i32_327
  let c32_i32_328 : BitVec 32 := 32#32
  let v378 : BitVec 32 := Scalar.remsi v377 c32_i32_328
  let c1_i32_333 : BitVec 32 := 1#32
  let v381 : BitVec 32 := Scalar.muli v378 c1_i32_333
  let v382 : BitVec 32 := Scalar.addi c0_i32_334 v381
  v382.toNat
def k0_dev53 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v389 : BitVec 32 := Scalar.addi v2 c22_i32_337
  let c32_i32_338 : BitVec 32 := 32#32
  let v390 : BitVec 32 := Scalar.remsi v389 c32_i32_338
  let c1_i32_343 : BitVec 32 := 1#32
  let v393 : BitVec 32 := Scalar.muli v390 c1_i32_343
  let v394 : BitVec 32 := Scalar.addi c0_i32_344 v393
  v394.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_347 : BitVec 32 := 23#32
  let v401 : BitVec 32 := Scalar.addi v2 c23_i32_347
  let c32_i32_348 : BitVec 32 := 32#32
  let v402 : BitVec 32 := Scalar.remsi v401 c32_i32_348
  let c1_i32_353 : BitVec 32 := 1#32
  let v405 : BitVec 32 := Scalar.muli v402 c1_i32_353
  let v406 : BitVec 32 := Scalar.addi c0_i32_354 v405
  v406.toNat
def k0_dev55 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_357 : BitVec 32 := 24#32
  let v413 : BitVec 32 := Scalar.addi v2 c24_i32_357
  let c32_i32_358 : BitVec 32 := 32#32
  let v414 : BitVec 32 := Scalar.remsi v413 c32_i32_358
  let c1_i32_363 : BitVec 32 := 1#32
  let v417 : BitVec 32 := Scalar.muli v414 c1_i32_363
  let v418 : BitVec 32 := Scalar.addi c0_i32_364 v417
  v418.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v425 : BitVec 32 := Scalar.addi v2 c25_i32_367
  let c32_i32_368 : BitVec 32 := 32#32
  let v426 : BitVec 32 := Scalar.remsi v425 c32_i32_368
  let c1_i32_373 : BitVec 32 := 1#32
  let v429 : BitVec 32 := Scalar.muli v426 c1_i32_373
  let v430 : BitVec 32 := Scalar.addi c0_i32_374 v429
  v430.toNat
def k0_dev57 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v437 : BitVec 32 := Scalar.addi v2 c26_i32_377
  let c32_i32_378 : BitVec 32 := 32#32
  let v438 : BitVec 32 := Scalar.remsi v437 c32_i32_378
  let c1_i32_383 : BitVec 32 := 1#32
  let v441 : BitVec 32 := Scalar.muli v438 c1_i32_383
  let v442 : BitVec 32 := Scalar.addi c0_i32_384 v441
  v442.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_387 : BitVec 32 := 27#32
  let v449 : BitVec 32 := Scalar.addi v2 c27_i32_387
  let c32_i32_388 : BitVec 32 := 32#32
  let v450 : BitVec 32 := Scalar.remsi v449 c32_i32_388
  let c1_i32_393 : BitVec 32 := 1#32
  let v453 : BitVec 32 := Scalar.muli v450 c1_i32_393
  let v454 : BitVec 32 := Scalar.addi c0_i32_394 v453
  v454.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v461 : BitVec 32 := Scalar.addi v2 c28_i32_397
  let c32_i32_398 : BitVec 32 := 32#32
  let v462 : BitVec 32 := Scalar.remsi v461 c32_i32_398
  let c1_i32_403 : BitVec 32 := 1#32
  let v465 : BitVec 32 := Scalar.muli v462 c1_i32_403
  let v466 : BitVec 32 := Scalar.addi c0_i32_404 v465
  v466.toNat
def k0_dev60 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_407 : BitVec 32 := 29#32
  let v473 : BitVec 32 := Scalar.addi v2 c29_i32_407
  let c32_i32_408 : BitVec 32 := 32#32
  let v474 : BitVec 32 := Scalar.remsi v473 c32_i32_408
  let c1_i32_413 : BitVec 32 := 1#32
  let v477 : BitVec 32 := Scalar.muli v474 c1_i32_413
  let v478 : BitVec 32 := Scalar.addi c0_i32_414 v477
  v478.toNat
def k0_dev61 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v485 : BitVec 32 := Scalar.addi v2 c30_i32_417
  let c32_i32_418 : BitVec 32 := 32#32
  let v486 : BitVec 32 := Scalar.remsi v485 c32_i32_418
  let c1_i32_423 : BitVec 32 := 1#32
  let v489 : BitVec 32 := Scalar.muli v486 c1_i32_423
  let v490 : BitVec 32 := Scalar.addi c0_i32_424 v489
  v490.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v497 : BitVec 32 := Scalar.addi v2 c31_i32_427
  let c32_i32_428 : BitVec 32 := 32#32
  let v498 : BitVec 32 := Scalar.remsi v497 c32_i32_428
  let c1_i32_433 : BitVec 32 := 1#32
  let v501 : BitVec 32 := Scalar.muli v498 c1_i32_433
  let v502 : BitVec 32 := Scalar.addi c0_i32_434 v501
  v502.toNat
def k0_off5 (d0 : Dev nD) (c1_i32_437 : BitVec 32) : Fin 2 → Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v509 : BitVec 32 := Scalar.subi v2 c1_i32_437
  let c32_i32_438 : BitVec 32 := 32#32
  let v510 : BitVec 32 := Scalar.addi v509 c32_i32_438
  let c32_i32_439 : BitVec 32 := 32#32
  let v511 : BitVec 32 := Scalar.remsi v510 c32_i32_439
  let c128_i32_440 : BitVec 32 := 128#32
  let v512 : BitVec 32 := Scalar.muli v511 c128_i32_440
  ![0, v512.toNat]
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Mesh.lean ====
/-
# Devices, memrefs and cells of the all-to-all kernel

The mesh is a ring of 32 devices. At distance `k + 1` in front of device `c` stands `ahead c k`, at the same distance
behind it `behind c k` (`k` from 0 to 30); turning the distance round exchanges the two.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Distances on the ring -/

/-- A distance `1 … 31`, numbered from 0. -/
abbrev Dist : Type := Fin 31

set_option backward.proofsInPublic true in
def ahead (c : Dev nD) (k : Dist) : Dev nD := ⟨(c.val + k.val + 1) % 32, Nat.mod_lt _ (by decide)⟩
set_option backward.proofsInPublic true in
def behind (c : Dev nD) (k : Dist) : Dev nD := ⟨(c.val + (31 - k.val)) % 32, Nat.mod_lt _ (by decide)⟩

theorem dev_lt (c : Dev nD) : c.val < 32 := c.isLt

theorem behind_ahead (c : Dev nD) (k : Dist) : behind (ahead c k) k = c := by
  apply Fin.ext; have := dev_lt c; have := k.isLt; simp only [ahead, behind]; omega
theorem ahead_behind (c : Dev nD) (k : Dist) : ahead (behind c k) k = c := by
  apply Fin.ext; have := dev_lt c; have := k.isLt; simp only [ahead, behind]; omega
theorem ahead_rev (c : Dev nD) (k : Dist) : ahead c k.rev = behind c k := by
  apply Fin.ext; have := dev_lt c; have := k.isLt; simp only [ahead, behind, Fin.val_rev]; omega
theorem ahead_ne (c : Dev nD) (k : Dist) : ahead c k ≠ c := by
  intro h; have hv := congrArg Fin.val h; have := dev_lt c; have := k.isLt; simp only [ahead] at hv; omega
theorem ahead_injective (c : Dev nD) : Function.Injective (ahead c) := by
  intro k k' h; have hv := congrArg Fin.val h; have := dev_lt c; have := k.isLt; have := k'.isLt
  simp only [ahead] at hv; apply Fin.ext; omega
theorem behind_injective (c : Dev nD) : Function.Injective (behind c) := by
  intro k k' h; have hv := congrArg Fin.val h; have := dev_lt c; have := k.isLt; have := k'.isLt
  simp only [behind] at hv; apply Fin.ext; omega
/-- Every device but `c` stands ahead of it at one distance. -/
theorem exists_ahead (c d : Dev nD) (h : d ≠ c) : ∃ k, ahead c k = d := by
  have hv : d.val ≠ c.val := fun e => h (Fin.ext e)
  have := dev_lt c; have := dev_lt d
  refine ⟨⟨(d.val + 31 - c.val) % 32, by omega⟩, ?_⟩
  apply Fin.ext; simp only [ahead]; omega

/-- The step by one distance, as a permutation of the mesh. -/
def stepBy (k : Dist) : Dev nD ≃ Dev nD := ⟨fun c => ahead c k, fun c => behind c k, fun c => behind_ahead c k, fun c => ahead_behind c k⟩

/-- The mesh is device `c` and the devices ahead of it. -/
theorem univ_split (c : Dev nD) : (Finset.univ : Finset (Dev nD)) = insert c (Finset.univ.map ⟨ahead c, ahead_injective c⟩) := by
  ext d
  simp only [Finset.mem_univ, Finset.mem_insert, Finset.mem_map, Function.Embedding.coeFn_mk, true_and, true_iff]
  by_cases h : d = c
  · exact .inl h
  · exact .inr (exists_ahead c d h)
/-- … and the devices behind it. -/
theorem univ_split_behind (c : Dev nD) : (Finset.univ : Finset (Dev nD)) = insert c (Finset.univ.map ⟨behind c, behind_injective c⟩) := by
  ext d
  simp only [Finset.mem_univ, Finset.mem_insert, Finset.mem_map, Function.Embedding.coeFn_mk, true_and, true_iff]
  by_cases h : d = c
  · exact .inl h
  · obtain ⟨k, hk⟩ := exists_ahead c d h
    exact .inr ⟨k.rev, by rw [← hk, ← ahead_rev, Fin.rev_rev]⟩
theorem not_mem_ahead (c : Dev nD) : c ∉ Finset.univ.map ⟨ahead c, ahead_injective c⟩ := fun h => by
  obtain ⟨k, -, hk⟩ := Finset.mem_map.mp h; exact ahead_ne c k hk
theorem not_mem_behind (c : Dev nD) : c ∉ Finset.univ.map ⟨behind c, behind_injective c⟩ := fun h => by
  obtain ⟨k, -, hk⟩ := Finset.mem_map.mp h
  exact ahead_ne c k.rev (by rw [ahead_rev]; exact hk)

/-! ## Memrefs -/

abbrev xM : Memref sig .tc .vmem S4096x128 .i8 := Memref.whole cc0_stg0_0
abbrev wM : Memref sig .tc .vmem S4096x8192 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S128x8192 .f32 := Memref.whole cc0_stg4_0
/-- The gathered operand: column block `s` is the one device `s` fills. -/
abbrev gM : Memref sig .tc .vmem S128x4096 .i8 := Memref.whole cc0_scratch0

/-- Row block `d` of the operand shard: what device `d` is to get. -/
abbrev xRect (d : Dev nD) : Rect S4096x128 := Rect.unit (s := S4096x128) (k0_off1 d) S128x128.size (k0_off1_inb d)
/-- Column block `s` of the gathered operand. -/
abbrev gRect (s : Dev nD) : Rect S128x4096 := Rect.unit (s := S128x4096) (k0_off2 s) S128x128.size (k0_off2_inb s)
abbrev xB (d : Dev nD) : Memref sig .tc .vmem S128x128 .i8 := xM.slice (xRect d) (fun _ => rfl)
abbrev gB (s : Dev nD) : Memref sig .tc .vmem S128x128 .i8 := gM.slice (gRect s) (fun _ => rfl)

theorem x_off (c : Dev nD) (k : Dist) : k0_off4 c (BitVec.ofNat 32 (1 + k.val)) = k0_off1 (ahead c k) := by
  rw [k0_off4_eq, k0_off1_eq]; rfl
theorem g_off (c : Dev nD) : k0_off3 c = k0_off2 c := by rw [k0_off3_eq, k0_off2_eq]

/-! ## Semaphores and cells -/

/-- The barrier semaphore of the kernel's collective id (not the launch's own). -/
abbrev barS : Sem sig := (SemArray.scalar (sig.barrier 0 rfl) : Sems sig S_).sem
set_option backward.proofsInPublic true in
/-- The send semaphore at distance `k + 1`: element `k + 1` of its array. -/
def sndS (k : Dist) : DmaSem sig := ⟨6 + k.val, by have := k.isLt; show 6 + k.val < 69; omega⟩
set_option backward.proofsInPublic true in
/-- The receive semaphore at distance `k + 1`, likewise. -/
def rcvS (k : Dist) : DmaSem sig := ⟨38 + k.val, by have := k.isLt; show 38 + k.val < 69; omega⟩

theorem sndS_injective : Function.Injective sndS := fun k k' h => Fin.ext (by have := congrArg Fin.val h; simp only [sndS] at this; omega)
theorem rcvS_injective : Function.Injective rcvS := fun k k' h => Fin.ext (by have := congrArg Fin.val h; simp only [rcvS] at this; omega)
theorem sndS_ne_rcvS (k k' : Dist) : sndS k ≠ rcvS k' := fun h => by
  have := congrArg Fin.val h; have := k.isLt; have := k'.isLt; simp only [sndS, rcvS] at *; omega

abbrev barCell (c : Dev nD) : GSem nD τ sig := ((c : Thread nD τ), .reg barS)
abbrev sndCell (c : Dev nD) (k : Dist) : GSem nD τ sig := ((c : Thread nD τ), .dma (sndS k))
abbrev rcvCell (c : Dev nD) (k : Dist) : GSem nD τ sig := ((c : Thread nD τ), .dma (rcvS k))

end Cert.Exchange

end
-- ==== Proof.Blocks.lean ====
/-
# What the buffers hold, block by block

`shard c` is device `c`'s operand shard as staged; `gathered c` what its gathered operand ends at: column block `s` holds
row block `c` of device `s`'s shard. Both buffers are held block by block while the exchange runs.
-/
module

public import proofs.«01_k».proof.Proof.Mesh

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks lead_disjoint lead_cover)

variable {F : FTy → Type} [FloatOps F]

/-! ## The resources: the pipeline's rounds and the exchange's, duties numbered by distances -/

abbrev UX : Type := URounds (GSem nD τ sig) Dist
abbrev UA : Type := UR sig nD τ × UX

local notation "𝕄" => MT nD τ sig Unit (Elt F) ℕ UA ℕ

abbrev EPipe : Emb (UR sig nD τ) (MT nD τ sig Unit (Elt F) ℕ UA ℕ) := embL
abbrev EX : Emb UX (MT nD τ sig Unit (Elt F) ℕ UA ℕ) := embR

variable (m : (ℓ : Loc nD τ sig) → Buf (Elt F) ℓ)

/-! ## Contents -/

/-- Device `c`'s operand shard, as the pipeline stages it. -/
def shard (c : Dev nD) : (cc0_stg0_0 : Ref sig .tc).ty.Contents (Elt F) :=
  (win0_0.blk (0 : Fin 1)).view.read (Elt F) (m ((c : Thread nD τ).loc main_arg0))

set_option backward.proofsInPublic true in
/-- Where element `i` of device `c`'s gathered operand comes from: the device, … -/
def fromDev (i : S128x4096.Idx) : Dev nD := ⟨(i 1).val / 128, by
  have h : (i 1).val < 4096 := (i 1).isLt
  show (i 1).val / 128 < 32; omega⟩
set_option backward.proofsInPublic true in
/-- … and the element of its shard. -/
def fromIdx (c : Dev nD) (i : S128x4096.Idx) : S4096x128.Idx := fun
  | 0 => ⟨128 * c.val + (i 0).val, by
      have h : (i 0).val < 128 := (i 0).isLt
      have := dev_lt c
      show 128 * c.val + (i 0).val < 4096; omega⟩
  | 1 => ⟨(i 1).val % 128, by show (i 1).val % 128 < 128; omega⟩

/-- The gathered operand of device `c`. -/
def gathered (c : Dev nD) : (cc0_scratch0 : Ref sig .tc).ty.Contents (Elt F) := fun i => shard m (fromDev i) (fromIdx c i)

omit [FloatOps F] in
/-- Block `s` of the gathered operand of `c`, read at `y`, is block `c` of the shard of `s` at `y`. -/
theorem gathered_emb (c s : Dev nD) (y : S128x128.Idx) :
    gathered m c ((gRect s).emb y) = shard m s ((xRect c).emb y) := by
  have h0 : (y 0).val < 128 := (y 0).isLt
  have h1 : (y 1).val < 128 := (y 1).isLt
  have e0 : k0_off2 s 0 = 0 := by rw [k0_off2_eq]; rfl
  have e1 : k0_off2 s 1 = 128 * s.val := by rw [k0_off2_eq]; rfl
  have f0 : k0_off1 c 0 = 128 * c.val := by rw [k0_off1_eq]; rfl
  have f1 : k0_off1 c 1 = 0 := by rw [k0_off1_eq]; rfl
  have g0 : ((gRect s).emb y 0).val = k0_off2 s 0 + 1 * (y 0).val := rfl
  have g1 : ((gRect s).emb y 1).val = k0_off2 s 1 + 1 * (y 1).val := rfl
  have hs : fromDev ((gRect s).emb y) = s := by
    apply Fin.ext; show ((gRect s).emb y 1).val / 128 = s.val; rw [g1, e1]; omega
  have hi : fromIdx c ((gRect s).emb y) = (xRect c).emb y := by
    funext a
    match a with
    | 0 => apply Fin.ext; show 128 * c.val + ((gRect s).emb y 0).val = k0_off1 c 0 + 1 * (y 0).val; rw [g0, e0, f0]; omega
    | 1 => apply Fin.ext; show ((gRect s).emb y 1).val % 128 = k0_off1 c 1 + 1 * (y 1).val; rw [g1, e1, f1]; omega
  show shard m (fromDev ((gRect s).emb y)) (fromIdx c ((gRect s).emb y)) = _
  rw [hs, hi]

/-! ## The blocks -/

/-- The elements of row block `d` of the shard; of column block `s` of the gathered operand. -/
def xSet (d : Dev nD) : Finset S4096x128.Idx := (xRect d).set
def gSet (s : Dev nD) : Finset S128x4096.Idx := (gRect s).set

theorem xB_set (d : Dev nD) : (xB d).view.set = xSet d := View.set_slice_whole cc0_stg0_0 (xRect d)
theorem gB_set (s : Dev nD) : (gB s).view.set = gSet s := View.set_slice_whole cc0_scratch0 (gRect s)

theorem x_disjoint (d d' : Dev nD) (h : d ≠ d') : Disjoint (xSet d) (xSet d') :=
  lead_disjoint (s := S4096x128) (0 : Fin 2) 128 k0_off1 S128x128.size k0_off1_inb (fun b => by rw [k0_off1_eq]; rfl) rfl d d' h
theorem x_cover : Finset.univ.biUnion xSet = Finset.univ :=
  lead_cover (s := S4096x128) (0 : Fin 2) 128 k0_off1 S128x128.size k0_off1_inb (fun b => by rw [k0_off1_eq]; rfl)
    (fun b a ha => by rw [k0_off1_eq]; match a with | 0 => exact absurd rfl ha | 1 => rfl) rfl
    (fun a ha => by match a with | 0 => exact absurd rfl ha | 1 => rfl) rfl
theorem g_disjoint (d d' : Dev nD) (h : d ≠ d') : Disjoint (gSet d) (gSet d') :=
  lead_disjoint (s := S128x4096) (1 : Fin 2) 128 k0_off2 S128x128.size k0_off2_inb (fun b => by rw [k0_off2_eq]; rfl) rfl d d' h
theorem g_cover : Finset.univ.biUnion gSet = Finset.univ :=
  lead_cover (s := S128x4096) (1 : Fin 2) 128 k0_off2 S128x128.size k0_off2_inb (fun b => by rw [k0_off2_eq]; rfl)
    (fun b a ha => by rw [k0_off2_eq]; match a with | 0 => rfl | 1 => exact absurd rfl ha) rfl
    (fun a ha => by match a with | 0 => rfl | 1 => exact absurd rfl ha) rfl

theorem x_mem (i : S4096x128.Idx) : ∃ d : Dev nD, i ∈ xSet d := by
  obtain ⟨d, -, h⟩ := Finset.mem_biUnion.mp (x_cover ▸ Finset.mem_univ i)
  exact ⟨d, h⟩
theorem g_mem (i : S128x4096.Idx) : ∃ s : Dev nD, i ∈ gSet s := by
  obtain ⟨s, -, h⟩ := Finset.mem_biUnion.mp (g_cover ▸ Finset.mem_univ i)
  exact ⟨s, h⟩

/-- Row block `d` of device `c`'s staged shard. -/
def xPiece (c d : Dev nD) : sProp 𝕄 := ((c : Thread nD τ).loc cc0_stg0_0) ↦[xSet d]{fullShare} shard m c
/-- Column block `s` of device `c`'s gathered operand, at contents `f`; … -/
def gAt (c s : Dev nD) (f : Buf (Elt F) ((c : Thread nD τ).loc cc0_scratch0)) : sProp 𝕄 :=
  ((c : Thread nD τ).loc cc0_scratch0) ↦[gSet s]{fullShare} f
/-- … at some contents; … -/
def gAny (c s : Dev nD) : sProp 𝕄 := iprop(∃ f, gAt c s f)
/-- … and filled. -/
def gFull (c s : Dev nD) : sProp 𝕄 := gAt c s (gathered m c)

omit [FloatOps F] in
instance xPiece_storable (c d : Dev nD) : BI.Storable (upEmb : UEmb _ 𝕄) (xPiece (F := F) m c d) := by unfold xPiece; infer_instance
omit [FloatOps F] in
instance gAt_storable (c s : Dev nD) (f) : BI.Storable (upEmb : UEmb _ 𝕄) (gAt (F := F) c s f) := by unfold gAt; infer_instance
omit [FloatOps F] in
instance gAny_storable (c s : Dev nD) : BI.Storable (upEmb : UEmb _ 𝕄) (gAny (F := F) c s) := by unfold gAny; infer_instance
omit [FloatOps F] in
instance gFull_storable (c s : Dev nD) : BI.Storable (upEmb : UEmb _ 𝕄) (gFull (F := F) m c s) := by unfold gFull; infer_instance

omit [FloatOps F] in
/-- The staged shard, whole, is its row blocks. -/
theorem x_split (c : Dev nD) : (((c : Thread nD τ).loc cc0_stg0_0) ↦{fullShare} shard m c : sProp 𝕄) = bigSep Finset.univ fun d : Dev nD => xPiece m c d :=
  pointsTo_blocks (ℓ := (c : Thread nD τ).loc cc0_stg0_0) xSet x_disjoint (Finset.eq_univ_iff_forall.mpr fun i => by
    obtain ⟨d, hd⟩ := x_mem i
    exact Finset.mem_biUnion.mpr ⟨d, Finset.mem_univ d, hd⟩) (shard m c)
omit [FloatOps F] in
/-- The gathered operand, whole at `f`, is its column blocks at `f`. -/
theorem g_split (c : Dev nD) (f : Buf (Elt F) ((c : Thread nD τ).loc cc0_scratch0)) :
    (((c : Thread nD τ).loc cc0_scratch0) ↦{fullShare} f : sProp 𝕄) = bigSep Finset.univ fun s : Dev nD => gAt c s f :=
  pointsTo_blocks (ℓ := (c : Thread nD τ).loc cc0_scratch0) gSet g_disjoint (Finset.eq_univ_iff_forall.mpr fun i => by
    obtain ⟨s, hs⟩ := g_mem i
    exact Finset.mem_biUnion.mpr ⟨s, Finset.mem_univ s, hs⟩) f

omit [FloatOps F] in
theorem xPiece_eq (c d : Dev nD) : xPiece m c d = ((xB d).view.loc (c : Thread nD τ) ↦[(xB d).view.set]{fullShare} shard m c : sProp 𝕄) := by
  rw [xB_set]; rfl
omit [FloatOps F] in
theorem gAt_eq (c s : Dev nD) (f : Buf (Elt F) ((c : Thread nD τ).loc cc0_scratch0)) :
    gAt c s f = ((gB s).view.loc (c : Thread nD τ) ↦[(gB s).view.set]{fullShare} f : sProp 𝕄) := by
  rw [gB_set]; rfl

omit [FloatOps F] in
/-- Block `s` of the gathered operand of `c` written with block `c` of the shard of `s`, over anything, is filled. -/
theorem gAt_write (c s : Dev nD) (f : Buf (Elt F) ((c : Thread nD τ).loc cc0_scratch0)) :
    gAt c s ((gB s).view.write (Elt F) f ((xB c).view.read (Elt F) (shard m s)) Finset.univ) = (gFull m c s : sProp 𝕄) := by
  unfold gFull gAt
  refine pointsTo_congr fun i hi => ?_
  rw [← gB_set] at hi
  obtain ⟨y, -, rfl⟩ := Finset.mem_map.mp hi
  rw [View.write_emb_of_mem _ _ (Finset.mem_univ _)]
  exact (gathered_emb m c s y).symm

end Cert.Exchange

end
-- ==== Proof.Schedule.lean ====
/-
# The schedule of the exchange

Each cell has one round. The barrier of device `c` takes 31 units, one from each other device, which hands over column
block `c` of its gathered operand: the room `c` fills there. The receive cell at distance `k` takes the credit of the block
that `behind c k` copies and yields column block `behind c k` filled; the send cell gives the row block lent to the copy back.
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-- The credit of one block. -/
abbrev N : ℕ := (gB (0 : Dev nD)).view.dmaCredit
theorem N_pos : 0 < N := View.dmaCredit_pos _ (by decide)

/-! ## The cells of the exchange, numbered -/

/-- The barrier, or the send (`false`) or receive (`true`) semaphore at a distance. -/
abbrev Kind : Type := Option (Bool × Dist)
abbrev ksem : Kind → SemLoc sig
  | none => .reg barS
  | some (false, k) => .dma (sndS k)
  | some (true, k) => .dma (rcvS k)
abbrev kcell (ck : Dev nD × Kind) : GSem nD τ sig := ((ck.1 : Thread nD τ), ksem ck.2)

theorem dma_ne_bar (q : DmaSem sig) : (SemLoc.dma q : SemLoc sig) ≠ .reg barS := fun h => by cases h
theorem snd_inj {k k' : Dist} (h : (SemLoc.dma (sndS k) : SemLoc sig) = .dma (sndS k')) : k = k' := sndS_injective (SemLoc.dma.inj h)
theorem rcv_inj {k k' : Dist} (h : (SemLoc.dma (rcvS k) : SemLoc sig) = .dma (rcvS k')) : k = k' := rcvS_injective (SemLoc.dma.inj h)
theorem snd_ne_rcv (k k' : Dist) : (SemLoc.dma (sndS k) : SemLoc sig) ≠ .dma (rcvS k') := fun h => sndS_ne_rcvS k k' (SemLoc.dma.inj h)

theorem ksem_injective : Function.Injective ksem := by
  rintro (_ | ⟨_ | _, k⟩) (_ | ⟨_ | _, k'⟩) h
  · rfl
  · exact absurd h.symm (dma_ne_bar _)
  · exact absurd h.symm (dma_ne_bar _)
  · exact absurd h (dma_ne_bar _)
  · rw [snd_inj h]
  · exact absurd h (snd_ne_rcv k k')
  · exact absurd h (dma_ne_bar _)
  · exact absurd h.symm (snd_ne_rcv k' k)
  · rw [rcv_inj h]
theorem kcell_injective : Function.Injective kcell := by
  rintro ⟨c, k⟩ ⟨c', k'⟩ h
  have h1 : c = c' := congrArg (fun g : GSem nD τ sig => g.1.1) h
  have h2 : k = k' := ksem_injective (congrArg Prod.snd h)
  rw [h1, h2]

/-- Which of them a semaphore is, if any. -/
def kindOf (s : SemLoc sig) : Option Kind := (Finset.univ.filter fun k : Kind => ksem k = s).toList.head?
theorem kindOf_ksem (k : Kind) : kindOf (ksem k) = some k := by
  have : (Finset.univ.filter fun k' : Kind => ksem k' = ksem k) = {k} := by
    ext k'; simp only [Finset.mem_filter, Finset.mem_univ, true_and, Finset.mem_singleton]
    exact ⟨fun h => ksem_injective h, fun h => h ▸ rfl⟩
  unfold kindOf; rw [this, Finset.toList_singleton]; rfl

/-! ## Duties, amounts, payloads -/

def dutiesOf : Option Kind → Finset Dist
  | some none => Finset.univ
  | some (some _) => {0}
  | none => ∅
def amountOf : Option Kind → ℕ
  | some none => 1
  | _ => N
/-- What duty `d` of the cell of device `c` delivers. -/
def payOf (c : Dev nD) (d : Dist) : Option Kind → sProp 𝕄
  | some none => gAny (ahead c d) c
  | some (some (false, k)) => xPiece m c (ahead c k)
  | some (some (true, k)) => gFull m c (behind c k)
  | none => iprop(emp)

def sched : Rounds.Schedule (GSem nD τ sig) Dist 𝕄 where
  duties g r := if r = 0 ∧ g.1.2 = .tc then dutiesOf (kindOf g.2) else ∅
  unitless _ := False
  amount g _ _ := amountOf (kindOf g.2)
  payload g _ d := payOf m g.1.1 d (kindOf g.2)
  amount_pos g _ _ _ := by
    unfold amountOf; split
    · exact Nat.one_pos
    · exact N_pos

instance sched_payload_storable (g : GSem nD τ sig) (r : ℕ) (d : Dist) :
    BI.Storable (upEmb : UEmb _ 𝕄) ((sched (F := F) m).payload g r d) := by
  show BI.Storable upEmb (payOf m g.1.1 d (kindOf g.2))
  unfold payOf; split <;> infer_instance

section Sched
variable (c : Dev nD) (k d : Dist)

omit [FloatOps F] in
theorem duties_cell (x : Kind) : (sched m).duties (kcell (c, x)) 0 = dutiesOf (some x) := by
  dsimp only [sched]; rw [if_pos ⟨rfl, rfl⟩, kindOf_ksem]
omit [FloatOps F] in
theorem amount_cell (x : Kind) : (sched m).amount (kcell (c, x)) 0 d = amountOf (some x) := by
  show amountOf (kindOf (ksem x)) = _; rw [kindOf_ksem]
omit [FloatOps F] in
theorem payload_cell (x : Kind) : (sched m).payload (kcell (c, x)) 0 d = payOf m c d (some x) := by
  show payOf m c d (kindOf (ksem x)) = _; rw [kindOf_ksem]
omit [FloatOps F] in
theorem duties_later (g : GSem nD τ sig) : ∀ r, 0 + 1 ≤ r → (sched m).duties g r = ∅ :=
  fun r hr => if_neg fun h => by omega

omit [FloatOps F] in
theorem expect_bar : (sched m).expect (barCell c) 0 = 31 := by
  unfold Schedule.expect Schedule.amountOf
  rw [show barCell c = kcell (c, none) from rfl, duties_cell, Finset.sum_congr rfl fun d _ => amount_cell m c d none]
  show Finset.sum (Finset.univ : Finset Dist) (fun _ => 1) = 31
  rw [Finset.sum_const, Finset.card_univ, Fintype.card_fin, smul_eq_mul]
omit [FloatOps F] in
theorem expect_dma (b : Bool) : (sched m).expect (kcell (c, some (b, k))) 0 = N := by
  unfold Schedule.expect Schedule.amountOf
  rw [duties_cell]
  show Finset.sum ({0} : Finset Dist) _ = N
  rw [Finset.sum_singleton, amount_cell]; rfl

omit [FloatOps F] in
/-- The whole of a barrier's round: the room to fill at every device ahead. -/
theorem rest_bar : bigSep ((sched m).duties (barCell c) 0 \ ∅) (fun d => (sched m).payload (barCell c) 0 d)
    = bigSep Finset.univ fun d : Dist => (gAny (ahead c d) c : sProp 𝕄) := by
  rw [Finset.sdiff_empty, show barCell c = kcell (c, none) from rfl, duties_cell]
  exact bigSep_congr fun d _ => payload_cell m c d none
omit [FloatOps F] in
theorem rest_dma (b : Bool) : bigSep ((sched m).duties (kcell (c, some (b, k))) 0 \ ∅) (fun d => (sched m).payload (kcell (c, some (b, k))) 0 d)
    = payOf m c 0 (some (some (b, k))) := by
  rw [Finset.sdiff_empty, duties_cell]
  show bigSep ({0} : Finset Dist) _ = _
  rw [bigSep_singleton, payload_cell]

end Sched

/-! ## The distances from `n` on -/

/-- The distances numbered `n` and above. -/
def rest (n : ℕ) : Finset Dist := Finset.univ.filter fun j => n ≤ j.val
/-- The distances numbered below `n`. -/
def done (n : ℕ) : Finset Dist := Finset.univ.filter fun j => j.val < n

theorem mem_rest {n : ℕ} {j : Dist} : j ∈ rest n ↔ n ≤ j.val := by simp [rest]
theorem mem_done {n : ℕ} {j : Dist} : j ∈ done n ↔ j.val < n := by simp [done]
theorem rest_peel (k : Dist) : rest k.val = insert k (rest (k.val + 1)) := by
  ext j; rw [Finset.mem_insert, mem_rest, mem_rest, Fin.ext_iff]; omega
theorem not_mem_rest (k : Dist) : k ∉ rest (k.val + 1) := fun h => by have := mem_rest.mp h; omega
theorem done_succ (k : Dist) : done (k.val + 1) = insert k (done k.val) := by
  ext j; rw [Finset.mem_insert, mem_done, mem_done, Fin.ext_iff]; omega
theorem not_mem_done (k : Dist) : k ∉ done k.val := fun h => by have := mem_done.mp h; omega
theorem rest_zero : rest 0 = Finset.univ := by ext j; simp [rest]
theorem rest_end : rest 31 = ∅ := by ext j; have := j.isLt; rw [mem_rest]; simp
theorem done_zero : done 0 = ∅ := by ext j; simp [done]
theorem done_end : done 31 = Finset.univ := by ext j; have := j.isLt; rw [mem_done]; simp

omit [FloatOps F] in
theorem bigSep_rest (k : Dist) (Φ : Dist → sProp 𝕄) : bigSep (rest k.val) Φ = iprop(Φ k ∗ bigSep (rest (k.val + 1)) Φ) := by
  rw [rest_peel]; exact bigSep_insert (not_mem_rest k)
omit [FloatOps F] in
theorem bigSep_done (k : Dist) (Φ : Dist → sProp 𝕄) : bigSep (done (k.val + 1)) Φ = iprop(Φ k ∗ bigSep (done k.val) Φ) := by
  rw [done_succ]; exact bigSep_insert (not_mem_done k)

/-! ## What each core owes; the levels -/

/-- The receive credits device `c` still owes before its copy number `n`, … -/
def owedSnd (c : Dev nD) (n : ℕ) : CellTallies nD τ sig Unit := ∑ j ∈ rest n, tallyAt (rcvCell (ahead c j) j) () N
/-- … and with them the units before its signal number `n`. -/
def owedBar (c : Dev nD) (n : ℕ) : CellTallies nD τ sig Unit := owedSnd c 0 + ∑ j ∈ rest n, tallyAt (barCell (ahead c j)) () 1
/-- At launch: all of it. -/
abbrev O₀ (c : Dev nD) : CellTallies nD τ sig Unit := owedBar c 0

theorem owedSnd_peel (c : Dev nD) (k : Dist) : owedSnd c k.val = owedSnd c (k.val + 1) + tallyAt (rcvCell (ahead c k) k) () N := by
  unfold owedSnd; rw [rest_peel, Finset.sum_insert (not_mem_rest k), add_comm]
theorem owedBar_peel (c : Dev nD) (k : Dist) : owedBar c k.val = owedBar c (k.val + 1) + tallyAt (barCell (ahead c k)) () 1 := by
  unfold owedBar; rw [rest_peel, Finset.sum_insert (not_mem_rest k), add_comm (tallyAt (barCell (ahead c k)) () 1), add_assoc]
theorem owedSnd_end (c : Dev nD) : owedSnd c 31 = 0 := by unfold owedSnd; rw [rest_end, Finset.sum_empty]
theorem owedBar_end (c : Dev nD) : owedBar c 31 = owedSnd c 0 := by unfold owedBar; rw [rest_end, Finset.sum_empty, add_zero]

/-- What a sum of tallies over distances owes a cell. -/
theorem sum_tally_apply (s : Finset Dist) (f : Dist → GSem nD τ sig) (n : ℕ) (g : GSem nD τ sig) :
    (∑ j ∈ s, (tallyAt (f j) () n : CellTallies nD τ sig Unit)) g () = ∑ j ∈ s, if g = f j then n else 0 := by
  induction s using Finset.induction_on with
  | empty => rw [Finset.sum_empty, Finset.sum_empty]; rfl
  | insert j s hj ih =>
    rw [Finset.sum_insert hj, Finset.sum_insert hj, Pi.add_apply, Finsupp.add_apply, ih, tallyAt_apply]
    congr 1
    exact if_congr ⟨fun h => h.1, fun h => ⟨h, rfl⟩⟩ rfl rfl
theorem sum_tally_pos {s : Finset Dist} {f : Dist → GSem nD τ sig} {n : ℕ} {g : GSem nD τ sig}
    (h : 0 < (∑ j ∈ s, (tallyAt (f j) () n : CellTallies nD τ sig Unit)) g ()) : ∃ j, g = f j := by
  rw [sum_tally_apply] at h
  by_contra hn
  rw [Finset.sum_eq_zero fun j _ => if_neg fun e => hn ⟨j, e⟩] at h
  exact Nat.lt_irrefl 0 h

def L (g : GSem nD τ sig) : Finset Unit := if g.1.2 = .tc then {()} else ∅
/-- Barriers at 1, receive cells at 2, the others (staging, send) at 0. -/
def lv (g : GSem nD τ sig) (_ : Unit) : ℕ := match kindOf g.2 with
  | some none => 1
  | some (some (true, _)) => 2
  | _ => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) : lv (barCell c) () = 1 := by
  unfold lv; rw [show (barCell c).2 = ksem none from rfl, kindOf_ksem]
theorem lv_rcv (c : Dev nD) (k : Dist) : lv (rcvCell c k) () = 2 := by
  unfold lv; rw [show (rcvCell c k).2 = ksem (some (true, k)) from rfl, kindOf_ksem]
theorem kindOf_none {s : SemLoc sig} (h : ∀ k, ksem k ≠ s) : kindOf s = none := by
  unfold kindOf; rw [Finset.filter_eq_empty_iff.mpr fun k _ => h k, Finset.toList_empty]; rfl

theorem owedSnd_pos {c : Dev nD} {n : ℕ} {g : GSem nD τ sig} {u : Unit} (h : 0 < owedSnd c n g u) : ∃ d k, g = rcvCell d k := by
  cases u
  obtain ⟨j, hj⟩ := sum_tally_pos h
  exact ⟨_, _, hj⟩
theorem owedBar_pos {c : Dev nD} {n : ℕ} {g : GSem nD τ sig} {u : Unit} (h : 0 < owedBar c n g u) :
    (∃ d k, g = rcvCell d k) ∨ ∃ d, g = barCell d := by
  cases u
  unfold owedBar at h
  rw [Pi.add_apply, Finsupp.add_apply] at h
  rcases Nat.eq_zero_or_pos (owedSnd c 0 g ()) with h0 | h0
  · rw [h0, Nat.zero_add] at h
    obtain ⟨j, hj⟩ := sum_tally_pos h
    exact .inr ⟨_, hj⟩
  · exact .inl (owedSnd_pos h0)

omit [FloatOps F] in
/-- The pipeline's own transfers are awaited below everything a core owes. -/
theorem mayWait_stage (c : Dev nD) (q : DmaSem sig) (hq : ∀ k, ksem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨d, k, rfl⟩ | ⟨d, rfl⟩ <;> exact Finset.mem_singleton_self _)
      (fun p hp => by rw [Finset.mem_singleton.mp hp]; unfold lv; rw [kindOf_none hq])
      (fun g u hg => by
        rcases owedBar_pos hg with ⟨d, k, rfl⟩ | ⟨d, rfl⟩
        · cases u; rw [lv_rcv]; decide
        · cases u; rw [lv_bar]; decide)
  · rw [MayWait_zero]; iintro -; iempintro

omit [FloatOps F] in
/-- A barrier is awaited below the receive credits. -/
theorem mayWait_bar (c : Dev nD) : (levAts L lv : sProp 𝕄) ⊢ MayWait (c : Thread nD τ) (.reg barS) () (owedSnd c 0) :=
  MayOwe.of_cut (L := L) (lev := lv) 1 (fun p hp => by rw [Finset.mem_singleton.mp hp, L_tc]; exact Finset.mem_singleton_self _)
    (fun g u hg => by obtain ⟨d, k, rfl⟩ := owedSnd_pos hg; exact Finset.mem_singleton_self _)
    (fun p hp => by rw [Finset.mem_singleton.mp hp]; exact (lv_bar c).le)
    (fun g u hg => by obtain ⟨d, k, rfl⟩ := owedSnd_pos hg; cases u; rw [lv_rcv]; decide)

/-! ## The records -/

/-- Every cell's invariant, under the names `K`, and that its round is reached. -/
def records (K : Dev nD × Kind → ℕ) : sProp 𝕄 :=
  iprop((bigSep Finset.univ fun ck : Dev nD × Kind => cellInv EX (sched m) (K ck) (kcell ck))
    ∗ bigSep Finset.univ fun ck : Dev nD × Kind => reached EX (kcell ck) 0)

instance records_persistent (K : Dev nD × Kind → ℕ) : BI.Persistent (records m K) := by unfold records; infer_instance

omit [FloatOps F] in
theorem all_elim {I : Type} [Fintype I] [DecidableEq I] (Φ : I → sProp 𝕄) (i : I) : bigSep Finset.univ Φ ⊢ Φ i := bigSep_elim (Finset.mem_univ i)
omit [FloatOps F] in
theorem records_inv (K : Dev nD × Kind → ℕ) (ck : Dev nD × Kind) : records m K ⊢ cellInv EX (sched m) (K ck) (kcell ck) := by
  unfold records
  iintro ⟨H, -⟩
  iapply (all_elim (F := F) (fun ck : Dev nD × Kind => cellInv EX (sched m) (K ck) (kcell ck)) ck); iexact H
omit [FloatOps F] in
theorem records_reached (K : Dev nD × Kind → ℕ) (ck : Dev nD × Kind) : records m K ⊢ reached EX (kcell ck) 0 := by
  unfold records
  iintro ⟨-, H⟩
  iapply (all_elim (F := F) (fun ck : Dev nD × Kind => reached EX (kcell ck) 0) ck); iexact H

end Cert.Exchange

end
-- ==== Proof.Steps.lean ====
/-
# One rule for each kind of operation of the exchange

What a device holds while it signals, copies and waits is indexed by how many of the 31 operations are done; each rule
carries out operation number `k`, for any `k`.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

variable (K : Dev nD × Kind → ℕ)

abbrev 𝒱₀ : Variants := Variants.none

/-- The weakest precondition of device `c`'s program. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-- Before signal number `n`: the room still to hand out and the duties to be paid with it. -/
def Signals (c : Dev nD) (n : ℕ) : sProp 𝕄 :=
  iprop((bigSep (rest n) fun j => iprop(gAny c (ahead c j) ∗ dutyTok EX (barCell (ahead c j)) 0 j.rev)) ∗ owing c (owedBar c n))
/-- Before copy number `n`: the row blocks to copy and the room for them, the duties; the credits for those on the way. -/
def Copies (c : Dev nD) (n : ℕ) : sProp 𝕄 :=
  iprop((bigSep (rest n) fun j => iprop((xPiece m c (ahead c j) ∗ gAny (ahead c j) c)
        ∗ (dutyTok EX (sndCell c j) 0 (0 : Dist) ∗ dutyTok EX (rcvCell (ahead c j) j) 0 (0 : Dist))))
    ∗ (bigSep (done n) fun j => cred (tallyAt (sndCell c j) () N)) ∗ owing c (owedSnd c n))
/-- Before wait number `n` on the receive (`true`) or send (`false`) cells. -/
def Waiting (b : Bool) (c : Dev nD) (n : ℕ) : sProp 𝕄 :=
  iprop((bigSep (rest n) fun j => iprop(atPos EX (kcell (c, some (b, j))) 0 ∅ 0 ∗ cred (tallyAt (kcell (c, some (b, j))) () N)))
    ∗ (bigSep (done n) fun j => iprop(payOf m c 0 (some (some (b, j))) ∗ semVal (kcell (c, some (b, j))) 0)) ∗ owing c 0)

/-- The signal number `k`. -/
theorem signal_step (c n : Dev nD) (k : Dist) (hn : n = ahead c k) {a : ℤ} (ha : a = ((1 : ℕ) : ℤ)) {α : Type} {R : sProp 𝕄} {Q : α → sProp 𝕄}
    {cont : PUnit → Prog (TpuEff nD τ sig (Elt F) Λ₀ .tc) α}
    (h : iprop(records m K ∗ Signals c (k.val + 1) ∗ R) ⊢ wpc c (cont ⟨⟩) Q) :
    iprop(records m K ∗ Signals c k.val ∗ R) ⊢ wpc c (.op (.semSignal (n : Thread nD τ) barS a) cont) Q := by
  subst hn ha
  unfold Signals owing
  rw [bigSep_rest k]
  iintro ⟨#HR, ⟨⟨⟨Hg, Ht⟩, Hrest⟩, %W, HO⟩, HF⟩
  iapply (Rounds.wp_signal 𝒱₀ EX (sched m) (c : Thread nD τ) none (dst := (ahead c k : Thread nD τ)) (sem := barS) (κ := K (ahead c k, none)) (r := 0)
      (d := k.rev) (by rw [show ((ahead c k : Thread nD τ), SemLoc.reg barS) = kcell (ahead c k, none) from rfl, duties_cell]; exact Finset.mem_univ _)
      (amount_cell m (ahead c k) k.rev none) () (owedBar c (k.val + 1)) (owedBar_peel c k))
    $$ [HO Hg Ht]
  · isplitr; · iapply (records_inv m K (ahead c k, none)); iexact HR
    isplitl [HO]; · iexact HO
    isplitl [Ht]; · iexact Ht
    isplitl [Hg]
    · rw [show ((ahead c k : Thread nD τ), SemLoc.reg barS) = kcell (ahead c k, none) from rfl, payload_cell]
      rw [show payOf m (ahead c k) k.rev (some none) = gAny (ahead (ahead c k) k.rev) (ahead c k) from rfl, ahead_rev, behind_ahead]; iexact Hg
    iapply (records_reached m K (ahead c k, none)); iexact HR
  iintro HO
  iapply h
  isplitr; · iexact HR
  isplitr [HF]
  · unfold Signals owing
    isplitl [Hrest]; · iexact Hrest
    iexists W; iexact HO
  iexact HF

/-- The wait on the barrier: every device ahead has handed its room over, and the cell closes. -/
theorem barrier_step (c : Dev nD) {a : ℤ} (ha : a = ((31 : ℕ) : ℤ)) {α : Type} {R : sProp 𝕄} {Q : α → sProp 𝕄}
    {cont : PUnit → Prog (TpuEff nD τ sig (Elt F) Λ₀ .tc) α}
    (h : iprop(records m K ∗ ((bigSep Finset.univ fun j : Dist => gAny (ahead c j) c) ∗ semVal (barCell c) 0 ∗ owing c (owedSnd c 0)) ∗ R) ⊢ wpc c (cont ⟨⟩) Q) :
    iprop(records m K ∗ (atPos EX (barCell c) 0 ∅ 0 ∗ cred (tallyAt (barCell c) () 31) ∗ levAts L lv ∗ Signals c 31) ∗ R)
      ⊢ wpc c (.op (.semWait barS a) cont) Q := by
  subst ha
  unfold Signals owing
  rw [owedBar_end]
  iintro ⟨#HR, ⟨Hat, Hc, #Hlev, -, %W, HO⟩, HF⟩
  iapply (Rounds.wp_wait_rest_token 𝒱₀ EX (sched m) (c : Thread nD τ) none (κ := K (c, none))
      (wpE_semWait_eq 𝒱₀ (c : Thread nD τ) none Set.univ) (Set.mem_univ _) () (O := owedSnd c 0) (W := W) (R := 0) (m := 0) (T := ∅)
      (by rw [expect_bar])) $$ [Hc HO Hat]
  · isplitr; · iapply (records_inv m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close EX (sched m) (Set.mem_univ (K (c, none))) (fun h => h) (R := 0 + 1) (duties_later m (barCell c))) $$ [Hat] with Hz
  · isplitr; · iapply (records_inv m K (c, none)); iexact HR
    iexact Hat
  iapply h
  isplitr; · iexact HR
  isplitr [HF]
  · isplitl [Hp]; · iexact Hp
    isplitl [Hz]; · iexact Hz
    unfold owing; iexists _; iexact HO
  iexact HF

/-- A block copied to where the kernel's copy number `k` puts it. -/
theorem copy_pay (c : Dev nD) (k : Dist) (f : Buf (Elt F) ((ahead c k : Thread nD τ).loc cc0_scratch0)) :
    (gAt (ahead c k) c ((gB c).view.write (Elt F) f ((xB (ahead c k)).view.read (Elt F) (shard m c)) Finset.univ) : sProp 𝕄)
      ⊢ payOf m (ahead c k) 0 (some (some (true, k))) := by
  rw [gAt_write]; show _ ⊢ gFull m (ahead c k) (behind (ahead c k) k); rw [behind_ahead]

/-- The copy number `k`. -/
theorem copy_step (c n : Dev nD) (k : Dist) (hn : n = ahead c k)
    {ox : Fin 2 → ℕ} {hx : ∀ a, ox a + S128x128.size a ≤ S4096x128.size a} (hox : ox = k0_off1 (ahead c k))
    {og : Fin 2 → ℕ} {hg : ∀ a, og a + S128x128.size a ≤ S128x4096.size a} (hog : og = k0_off2 c)
    {s1 s2 : DmaSem sig} (hs1 : s1 = sndS k) (hs2 : s2 = rcvS k)
    {hsc : ((gM.slice (Rect.unit (s := S128x4096) og S128x128.size hg) (fun _ => rfl) : Memref sig .tc .vmem S128x128 .i8) :
      Memref sig (Dev.tc n : Thread nD τ).2.kind .vmem S128x128 .i8).view.ref.isScScratch = false}
    {hsrc : (xM.slice (Rect.unit (s := S4096x128) ox S128x128.size hx) (fun _ => rfl) : Memref sig .tc .vmem S128x128 .i8).view.WordExact}
    {hdst : (gM.slice (Rect.unit (s := S128x4096) og S128x128.size hg) (fun _ => rfl) : Memref sig .tc .vmem S128x128 .i8).view.WordExact}
    {hsem : DmaTarget.Typed .vmem (.dma s2) (.remote (Dev.tc n : Thread nD τ)
      (gM.slice (Rect.unit (s := S128x4096) og S128x128.size hg) (fun _ => rfl) : Memref sig .tc .vmem S128x128 .i8) (.dma s1) hsc)}
    {α : Type} {R : sProp 𝕄} {Q : α → sProp 𝕄} {cont : PUnit → Prog (TpuEff nD τ sig (Elt F) Λ₀ .tc) α}
    (h : iprop(records m K ∗ Copies m c (k.val + 1) ∗ R) ⊢ wpc c (cont ⟨⟩) Q) :
    iprop(records m K ∗ Copies m c k.val ∗ R)
      ⊢ wpc c (.op (.enqueueDma (xM.slice (Rect.unit (s := S4096x128) ox S128x128.size hx) (fun _ => rfl))
          (.remote (Dev.tc n : Thread nD τ) (gM.slice (Rect.unit (s := S128x4096) og S128x128.size hg) (fun _ => rfl)) (.dma s1) hsc) (.dma s2) hsrc hdst hsem) cont) Q := by
  subst hn hox hog hs1 hs2
  unfold Copies owing
  rw [bigSep_rest k]
  iintro ⟨#HR, ⟨⟨⟨⟨Hx, Hg⟩, Ht1, Ht2⟩, Hrest⟩, Hdone, %W, HO⟩, HF⟩
  unfold gAny
  icases Hg with ⟨%f, Hg⟩
  ihave Hx' := (Entails.of_eq (xPiece_eq m c (ahead c k))) $$ Hx
  ihave Hg' := (Entails.of_eq (gAt_eq (ahead c k) c f)) $$ Hg
  iapply (Rounds.wp_send_pointsTo 𝒱₀ EX (sched m) (c : Thread nD τ) none (src := xB (ahead c k)) (dst := gB c) (c' := (Dev.tc (ahead c k) : Thread nD τ))
      (sS := .dma (sndS k)) (sem := .dma (rcvS k)) (κ₁ := K (c, some (false, k))) (κ₂ := K (ahead c k, some (true, k)))
      (r₁ := 0) (r₂ := 0) (d₁ := 0) (d₂ := 0) (fs := shard m c) (fd := f)
      (by rw [show ((c : Thread nD τ), SemLoc.dma (sndS k)) = kcell (c, some (false, k)) from rfl, duties_cell]; exact Finset.mem_singleton_self _)
      (by rw [show ((ahead c k : Thread nD τ), SemLoc.dma (rcvS k)) = kcell (ahead c k, some (true, k)) from rfl, duties_cell]; exact Finset.mem_singleton_self _)
      () () N rfl (amount_cell m c 0 (some (false, k))) (amount_cell m (ahead c k) 0 (some (true, k)))
      (owedSnd c (k.val + 1)) (owedSnd_peel c k) (W := W)
      (by rw [show ((c : Thread nD τ), SemLoc.dma (sndS k)) = kcell (c, some (false, k)) from rfl, payload_cell, ← xPiece_eq]; exact BI.Entails.refl _)
      (by rw [show ((ahead c k : Thread nD τ), SemLoc.dma (rcvS k)) = kcell (ahead c k, some (true, k)) from rfl, payload_cell, ← gAt_eq]
          exact copy_pay m c k f))
    $$ [HO Hx' Hg' Ht1 Ht2]
  · isplitr; · iapply (records_inv m K (c, some (false, k))); iexact HR
    isplitr; · iapply (records_inv m K (ahead c k, some (true, k))); iexact HR
    isplitl [Hx']; · iexact Hx'
    isplitl [Hg']; · iexact Hg'
    isplitl [HO]; · iexact HO
    isplitl [Ht1]; · iexact Ht1
    isplitr; · iapply (records_reached m K (c, some (false, k))); iexact HR
    isplitl [Ht2]; · iexact Ht2
    iapply (records_reached m K (ahead c k, some (true, k))); iexact HR
  iintro ⟨Hc, HO⟩
  iapply h
  isplitr; · iexact HR
  isplitr [HF]
  · unfold Copies owing
    rw [bigSep_done k]
    isplitl [Hrest]; · iexact Hrest
    isplitl [Hc Hdone]
    · isplitl [Hc]; · iexact Hc
      iexact Hdone
    iexists W; iexact HO
  iexact HF

/-- The wait number `k` on the receive or send cells: its payload, and the cell closes. -/
theorem wait_step (b : Bool) (c : Dev nD) (k : Dist) {s : DmaSem sig} (hs : SemLoc.dma s = ksem (some (b, k)))
    {src dst : Memref sig .tc .vmem S128x128 .i8} {hsrc : src.view.WordExact} {hdst : dst.view.WordExact} (hN : dst.view.dmaCredit = N)
    {α : Type} {R : sProp 𝕄} {Q : α → sProp 𝕄} {cont : PUnit → Prog (TpuEff nD τ sig (Elt F) Λ₀ .tc) α}
    (h : iprop(records m K ∗ Waiting m b c (k.val + 1) ∗ R) ⊢ wpc c (cont ⟨⟩) Q) :
    iprop(records m K ∗ Waiting m b c k.val ∗ R) ⊢ wpc c (.op (.waitDma2 s src dst hsrc hdst) cont) Q := by
  have hc : ((c : Thread nD τ), SemLoc.dma s) = kcell (c, some (b, k)) := by rw [hs]
  unfold Waiting owing
  rw [bigSep_rest k, ← hc]
  iintro ⟨#HR, ⟨⟨⟨Hat, Hc⟩, Hrest⟩, Hdone, %W, HO⟩, HF⟩
  iapply (Rounds.wp_wait_rest_token 𝒱₀ EX (sched m) (c : Thread nD τ) none (sm := .dma s) (k' := N) (κ := K (c, some (b, k)))
      (by intro Kt; rw [← hN]; exact wpE_waitDma2_eq 𝒱₀ (c : Thread nD τ) none Set.univ Kt) (Set.mem_univ _) () (O := 0) (W := W) (R := 0) (m := 0) (T := ∅)
      (by rw [Nat.zero_add, hc, expect_dma])) $$ [Hc HO Hat]
  · isplitr; · rw [hc]; iapply (records_inv m K (c, some (b, k))); iexact HR
    isplitl [Hc]; · iexact Hc
    isplitl [HO]; · iexact HO
    isplitr; · rw [MayWait_zero]; iempintro
    iexact Hat
  iintro ⟨HO, Hat, -, Hpay⟩
  rw [hc]
  ihave Hp := (Entails.of_eq (rest_dma m c k b)) $$ Hpay
  imod (Rounds.cell_close EX (sched m) (Set.mem_univ (K (c, some (b, k)))) (fun h => h) (R := 0 + 1) (duties_later m (kcell (c, some (b, k))))) $$ [Hat] with Hz
  · isplitr; · iapply (records_inv m K (c, some (b, k))); iexact HR
    iexact Hat
  iapply h
  isplitr; · iexact HR
  isplitr [HF]
  · unfold Waiting owing
    rw [bigSep_done k]
    isplitl [Hrest]; · iexact Hrest
    isplitl [Hp Hz Hdone]
    · isplitl [Hp Hz]
      · isplitl [Hp]; · iexact Hp
        iexact Hz
      iexact Hdone
    iexists _; iexact HO
  iexact HF

end Cert.Exchange

end
-- ==== Proof.Compute.lean ====
/-
# The local operations: a device's own block, and the product

A device stores its own block into its gathered operand itself, and once that is whole computes its rows of the result.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

variable (K : Dev nD × Kind → ℕ)

/-- The staged weights and scales of device `c`. -/
def weights (c : Dev nD) : (cc0_stg1_0 : Ref sig .tc).ty.Contents (Elt F) :=
  (win0_1.blk (0 : Fin 1)).view.read (Elt F) (m ((c : Thread nD τ).loc main_arg1))
def scaleX (c : Dev nD) : (cc0_stg2_0 : Ref sig .tc).ty.Contents (Elt F) :=
  (win0_2.blk (0 : Fin 1)).view.read (Elt F) (m ((c : Thread nD τ).loc main_arg2))
def scaleW (c : Dev nD) : (cc0_stg3_0 : Ref sig .tc).ty.Contents (Elt F) :=
  (win0_3.blk (0 : Fin 1)).view.read (Elt F) (m ((c : Thread nD τ).loc main_arg3))

/-- The one index of a scale. -/
def oneIdx : S1.Idx := fun | 0 => (0 : Fin 1)
theorem idx_one (i : S1.Idx) : i = oneIdx := funext fun a => by match a with | 0 => exact Subsingleton.elim (α := Fin 1) _ _

/-- Device `c`'s rows of the result: the skeleton's payloads at the gathered operand. -/
def outRows (c : Dev nD) : (cc0_stg4_0 : Ref sig .tc).ty.Contents (Elt F) :=
  k0_pay3 (k0_pay2 (gathered m c) (weights m c)) (scaleX m c oneIdx) (scaleW m c oneIdx)

theorem zero2 : (![0, 0] : Fin 2 → Nat) = fun _ => 0 := funext fun a => by fin_cases a <;> rfl
theorem zero1 : (![0] : Fin 1 → Nat) = fun _ => 0 := funext fun a => by fin_cases a; rfl

omit [FloatOps F] in
theorem pay1_eq (v : Vec F S128x128 .i8) : k0_pay1 v = v := by
  unfold k0_pay1; dsimp only; rw [shapeCast_self, shapeCast_self]

/-- A device's own block: read off its shard, the room read and thrown away, stored. -/
theorem own_step (c : Dev nD)
    {hl1 : xM.view.LoadsAt (xRect c).toLoadRect} {hl2 : gM.view.LoadsAt (gRect c).toLoadRect}
    {hst : (gM.access (gRect c)).Stores Finset.univ} {hm}
    {α : Type} {R : sProp 𝕄} {Q : α → sProp 𝕄} {cont : PUnit → Prog (TpuEff nD τ sig (Elt F) Λ₀ .tc) α}
    (h : iprop(records m K ∗ (xPiece m c c ∗ gFull m c c) ∗ R) ⊢ wpc c (cont ⟨⟩) Q) :
    iprop(records m K ∗ (xPiece m c c ∗ gAny c c) ∗ R)
      ⊢ wpc c (.op (.load xM (xRect c).toLoadRect hl1) fun v => .op (.load gM (gRect c).toLoadRect hl2) fun _ =>
          .op (.store gM (gRect c) (k0_pay1 v) Finset.univ hst hm) cont) Q := by
  unfold gAny
  iintro ⟨#HR, ⟨Hx, %f, Hg⟩, HF⟩
  ihave Hx' := (Entails.of_eq (xPiece_eq m c c)) $$ Hx
  ihave Hg' := (Entails.of_eq (gAt_eq c c f)) $$ Hg
  iapply (wp_load_rect 𝒱₀ (c : Thread nD τ) none Set.univ (m := xM) (r := xRect c) (S := (xB c).view.set) (f := shard m c) (Finset.Subset.refl _)) $$ Hx'
  iintro Hx
  iapply (wp_load_rect 𝒱₀ (c : Thread nD τ) none Set.univ (m := gM) (r := gRect c) (S := (gB c).view.set) (f := f) (Finset.Subset.refl _)) $$ Hg'
  iintro Hg
  rw [pay1_eq]
  iapply (wp_store 𝒱₀ (c : Thread nD τ) none Set.univ (m := gM) (r := gRect c) (S := (gB c).view.set) (f := f) (Finset.Subset.refl _)) $$ Hg
  iintro Hg
  iapply h
  isplitr; · iexact HR
  isplitr [HF]
  · isplitl [Hx]; · rw [xPiece_eq]; iexact Hx
    rw [← gAt_write m c c f, gAt_eq]; iexact Hg
  iexact HF

/-- The whole rectangles of the operands. -/
abbrev gAll : Rect S128x4096 := Rect.unit (s := S128x4096) ![0, 0] S128x4096.size inb_S128x4096_S128x4096_0_0
abbrev wAll : Rect S4096x8192 := Rect.unit (s := S4096x8192) ![0, 0] S4096x8192.size inb_S4096x8192_S4096x8192_0_0
abbrev oAll : Rect S128x8192 := Rect.unit (s := S128x8192) ![0, 0] S128x8192.size inb_S128x8192_S128x8192_0_0
abbrev sAll : Rect S1 := Rect.unit (s := S1) ![0] S1.size inb_S1_S1_0

omit [FloatOps F] in
theorem read_g (f : (cc0_scratch0 : Ref sig .tc).ty.Contents (Elt F)) : gM.view.readAt (Elt F) gAll.toLoadRect f = f :=
  Memref.readAt_unit_zero (Elt F) cc0_scratch0 zero2 _ f
omit [FloatOps F] in
theorem read_w (f : (cc0_stg1_0 : Ref sig .tc).ty.Contents (Elt F)) : wM.view.readAt (Elt F) wAll.toLoadRect f = f :=
  Memref.readAt_unit_zero (Elt F) cc0_stg1_0 zero2 _ f
omit [FloatOps F] in
theorem write_o (f w : (cc0_stg4_0 : Ref sig .tc).ty.Contents (Elt F)) :
    (oM.access oAll : View sig .tc _ _ _).write (Elt F) f w Finset.univ = w :=
  Memref.write_access_unit_zero_univ (Elt F) cc0_stg4_0 zero2 _ f w
omit [FloatOps F] in
theorem read_sx (f : (cc0_stg2_0 : Ref sig .tc).ty.Contents (Elt F)) (i : S1.Idx) : sxM.view.readAt (Elt F) sAll.toLoadRect f i = f oneIdx := by
  rw [idx_one i]; exact congrFun (Memref.readAt_unit_zero (Elt F) cc0_stg2_0 zero1 _ f) oneIdx
omit [FloatOps F] in
theorem read_sw (f : (cc0_stg3_0 : Ref sig .tc).ty.Contents (Elt F)) (i : S1.Idx) : swM.view.readAt (Elt F) sAll.toLoadRect f i = f oneIdx := by
  rw [idx_one i]; exact congrFun (Memref.readAt_unit_zero (Elt F) cc0_stg3_0 zero1 _ f) oneIdx

/-- What the product reads, whole. -/
def Operands (c : Dev nD) : sProp 𝕄 :=
  iprop((((c : Thread nD τ).loc cc0_scratch0) ↦{fullShare} gathered m c) ∗ (((c : Thread nD τ).loc cc0_stg1_0) ↦{fullShare} weights m c)
    ∗ (((c : Thread nD τ).loc cc0_stg2_0) ↦{fullShare} scaleX m c) ∗ (((c : Thread nD τ).loc cc0_stg3_0) ↦{fullShare} scaleW m c))

/-- The product, scaled, clamped and stored. -/
theorem product_step (c : Dev nD) {hl1 : gM.view.LoadsAt gAll.toLoadRect} {hl2 : wM.view.LoadsAt wAll.toLoadRect}
    {hl3 : sxM.view.LoadsAt sAll.toLoadRect} {hl4 : swM.view.LoadsAt sAll.toLoadRect} {i j : S1.Idx}
    {hl5 : oM.view.LoadsAt oAll.toLoadRect} {hst : (oM.access oAll).Stores Finset.univ} {hm}
    {α : Type} {R : sProp 𝕄} {Q : α → sProp 𝕄} {cont : PUnit → Prog (TpuEff nD τ sig (Elt F) Λ₀ .tc) α}
    (h : iprop(records m K ∗ (Operands m c ∗ (((c : Thread nD τ).loc cc0_stg4_0) ↦{fullShare} outRows m c)) ∗ R) ⊢ wpc c (cont ⟨⟩) Q) :
    iprop(records m K ∗ (Operands m c ∗ ∃ f, (((c : Thread nD τ).loc cc0_stg4_0) ↦{fullShare} f)) ∗ R)
      ⊢ wpc c (.op (.load gM gAll.toLoadRect hl1) fun v => .op (.load wM wAll.toLoadRect hl2) fun w =>
          .op (.load sxM sAll.toLoadRect hl3) fun sx => .op (.load swM sAll.toLoadRect hl4) fun sw =>
          .op (.load oM oAll.toLoadRect hl5) fun _ =>
          .op (.store oM oAll (k0_pay3 (k0_pay2 v w) (sx i) (sw j)) Finset.univ hst hm) cont) Q := by
  unfold Operands
  iintro ⟨#HR, ⟨⟨Hg, Hw, Hx, Hs⟩, %f, Ho⟩, HF⟩
  iapply (wp_load 𝒱₀ (c : Thread nD τ) none Set.univ (m := gM) (Finset.subset_univ _)) $$ Hg; iintro Hg
  iapply (wp_load 𝒱₀ (c : Thread nD τ) none Set.univ (m := wM) (Finset.subset_univ _)) $$ Hw; iintro Hw
  iapply (wp_load 𝒱₀ (c : Thread nD τ) none Set.univ (m := sxM) (Finset.subset_univ _)) $$ Hx; iintro Hx
  iapply (wp_load 𝒱₀ (c : Thread nD τ) none Set.univ (m := swM) (Finset.subset_univ _)) $$ Hs; iintro Hs
  iapply (wp_load 𝒱₀ (c : Thread nD τ) none Set.univ (m := oM) (Finset.subset_univ _)) $$ Ho; iintro Ho
  rw [read_g, read_w, read_sx, read_sw]
  iapply (wp_store 𝒱₀ (c : Thread nD τ) none Set.univ (m := oM) (r := oAll) (Mk := Finset.univ) (Finset.subset_univ _)) $$ Ho; iintro Ho
  rw [write_o]
  iapply h
  isplitr; · iexact HR
  isplitr [HF]
  · unfold Operands
    isplitr [Ho]
    · isplitl [Hg]; · iexact Hg
      isplitl [Hw]; · iexact Hw
      isplitl [Hx]; · iexact Hx
      iexact Hs
    iexact Ho
  iexact HF

end Cert.Exchange

end
-- ==== Proof.Stages.lean ====
/-
# The exchange in stages

What a device holds at the start, and how that is sorted afresh between the signals, the copies, the waits and the product.
-/
module

public import proofs.«01_k».proof.Proof.Compute

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

variable (K : Dev nD × Kind → ℕ)

/-- The positions at the receive (`true`) or send (`false`) cells, with the credits the waits there use up. -/
def Side (b : Bool) (c : Dev nD) : sProp 𝕄 :=
  bigSep Finset.univ fun j : Dist => iprop(atPos EX (kcell (c, some (b, j))) 0 ∅ 0 ∗ cred (tallyAt (kcell (c, some (b, j))) () N))
/-- The counters of the receive or send cells, at zero. -/
def Closed (b : Bool) (c : Dev nD) : sProp 𝕄 := bigSep Finset.univ fun j : Dist => semVal (kcell (c, some (b, j))) 0
/-- The row blocks to be copied, the duties of the copies, and the positions at the send cells. -/
def Toks (c : Dev nD) : sProp 𝕄 :=
  bigSep Finset.univ fun j : Dist => iprop(dutyTok EX (sndCell c j) 0 (0 : Dist) ∗ dutyTok EX (rcvCell (ahead c j) j) 0 (0 : Dist))
def Ats (c : Dev nD) : sProp 𝕄 := bigSep Finset.univ fun j : Dist => atPos EX (kcell (c, some (false, j))) 0 ∅ 0
def Xs (c : Dev nD) : sProp 𝕄 := bigSep Finset.univ fun j : Dist => xPiece m c (ahead c j)
/-- What only the product touches. -/
def Kept (c : Dev nD) : sProp 𝕄 :=
  iprop(((((c : Thread nD τ).loc cc0_stg1_0) ↦{fullShare} weights m c)
    ∗ (((c : Thread nD τ).loc cc0_stg2_0) ↦{fullShare} scaleX m c) ∗ (((c : Thread nD τ).loc cc0_stg3_0) ↦{fullShare} scaleW m c))
    ∗ ∃ f, (((c : Thread nD τ).loc cc0_stg4_0) ↦{fullShare} f))
def Bar (c : Dev nD) : sProp 𝕄 := iprop(atPos EX (barCell c) 0 ∅ 0 ∗ cred (tallyAt (barCell c) () 31) ∗ levAts L lv)

/-- The ghost state a device starts from, beside the records. -/
def Ghosts (c : Dev nD) : sProp 𝕄 :=
  iprop((bigSep Finset.univ fun j : Dist => dutyTok EX (barCell (ahead c j)) 0 j.rev) ∗ Bar c ∗ Toks c ∗ Side true c ∗ Ats c)
/-- The whole buffers a device starts from. -/
def Buffers (c : Dev nD) : sProp 𝕄 :=
  iprop((((c : Thread nD τ).loc cc0_stg0_0) ↦{fullShare} shard m c) ∗ (∃ f, ((c : Thread nD τ).loc cc0_scratch0) ↦{fullShare} f) ∗ Kept m c)

def R1 (c : Dev nD) : sProp 𝕄 := iprop(Bar c ∗ (xPiece m c c ∗ gAny c c) ∗ Xs m c ∗ Toks c ∗ Side true c ∗ Ats c ∗ Kept m c)
def R2 (c : Dev nD) : sProp 𝕄 := iprop((xPiece m c c ∗ gAny c c) ∗ Xs m c ∗ Toks c ∗ Side true c ∗ Ats c ∗ Kept m c)
def R3 (c : Dev nD) : sProp 𝕄 := iprop(Copies m c 0 ∗ semVal (barCell c) 0 ∗ Side true c ∗ Ats c ∗ Kept m c)
def R4 (c : Dev nD) : sProp 𝕄 := iprop((xPiece m c c ∗ gFull m c c) ∗ semVal (barCell c) 0 ∗ Side true c ∗ Ats c ∗ Kept m c)
def R5 (c : Dev nD) : sProp 𝕄 := iprop(Side false c ∗ (xPiece m c c ∗ gFull m c c) ∗ semVal (barCell c) 0 ∗ Kept m c)
def R6 (c : Dev nD) : sProp 𝕄 := iprop(Side false c ∗ xPiece m c c ∗ semVal (barCell c) 0 ∗ Closed true c ∗ owing c 0)
def R7 (c : Dev nD) : sProp 𝕄 :=
  iprop((Operands m c ∗ (((c : Thread nD τ).loc cc0_stg4_0) ↦{fullShare} outRows m c)) ∗ xPiece m c c ∗ semVal (barCell c) 0 ∗ Closed true c)
/-- What a device holds at the end. -/
def Done (c : Dev nD) : sProp 𝕄 :=
  iprop((((c : Thread nD τ).loc cc0_stg0_0) ↦{fullShare} shard m c) ∗ Operands m c ∗ (((c : Thread nD τ).loc cc0_stg4_0) ↦{fullShare} outRows m c)
    ∗ (Closed false c ∗ Closed true c ∗ semVal (barCell c) 0) ∗ owing c 0)

omit [FloatOps F] in
/-- A whole family over the devices is the member at `c` and those at the devices ahead of it. -/
theorem around (c : Dev nD) (Φ : Dev nD → sProp 𝕄) : bigSep Finset.univ Φ = iprop(Φ c ∗ bigSep Finset.univ fun j : Dist => Φ (ahead c j)) := by
  conv_lhs => rw [univ_split c]
  exact (bigSep_insert (not_mem_ahead c)).trans (by rw [bigSep_map]; rfl)
omit [FloatOps F] in
/-- The same with the devices behind it. -/
theorem around_behind (c : Dev nD) (Φ : Dev nD → sProp 𝕄) : bigSep Finset.univ Φ = iprop(Φ c ∗ bigSep Finset.univ fun j : Dist => Φ (behind c j)) := by
  conv_lhs => rw [univ_split_behind c]
  exact (bigSep_insert (not_mem_behind c)).trans (by rw [bigSep_map]; rfl)

theorem sort_start (c : Dev nD) : iprop(records m K ∗ (Ghosts c ∗ owing c (O₀ c)) ∗ Buffers m c) ⊢ iprop(records m K ∗ Signals c 0 ∗ R1 m c) := by
  unfold Ghosts Buffers Signals R1 Xs
  rw [rest_zero, bigSep_sep']
  iintro ⟨#HR, ⟨⟨Hd, HB, HT, HS, HA⟩, HO⟩, Hx, ⟨%f, Hg⟩, HK⟩
  ihave Hx := (Entails.of_eq ((x_split m c).trans (around c _))) $$ Hx
  ihave Hg := ((Entails.of_eq (g_split c f)).trans ((bigSep_mono fun s _ => show gAt c s f ⊢ gAny c s from exists_intro f).trans (Entails.of_eq (around c _)))) $$ Hg
  icases Hx with ⟨Hxc, Hxs⟩
  icases Hg with ⟨Hgc, Hgs⟩
  isplitr; · iexact HR
  isplitl [Hd Hgs HO]
  · isplitl [Hd Hgs]
    · isplitl [Hgs]; · iexact Hgs
      iexact Hd
    iexact HO
  isplitl [HB]; · iexact HB
  isplitl [Hxc Hgc]
  · isplitl [Hxc]; · iexact Hxc
    iexact Hgc
  isplitl [Hxs]; · iexact Hxs
  isplitl [HT]; · iexact HT
  isplitl [HS]; · iexact HS
  isplitl [HA]; · iexact HA
  iexact HK

theorem sort_barrier (c : Dev nD) : iprop(records m K ∗ Signals c 31 ∗ R1 m c)
    ⊢ iprop(records m K ∗ (atPos EX (barCell c) 0 ∅ 0 ∗ cred (tallyAt (barCell c) () 31) ∗ levAts L lv ∗ Signals c 31) ∗ R2 m c) := by
  unfold R1 R2 Bar
  iintro ⟨HR, HS, ⟨H1, H2, H3⟩, HF⟩
  isplitl [HR]; · iexact HR
  isplitr [HF]
  · isplitl [H1]; · iexact H1
    isplitl [H2]; · iexact H2
    isplitl [H3]; · iexact H3
    iexact HS
  iexact HF

theorem sort_own (c : Dev nD) : iprop(records m K ∗ ((bigSep Finset.univ fun j : Dist => gAny (ahead c j) c) ∗ semVal (barCell c) 0 ∗ owing c (owedSnd c 0)) ∗ R2 m c)
    ⊢ iprop(records m K ∗ (xPiece m c c ∗ gAny c c) ∗ R3 m c) := by
  unfold R2 R3 Copies Xs Toks
  rw [rest_zero, done_zero]; simp only [bigSep_sep']
  iintro ⟨HR, ⟨Hg, Hz, HO⟩, Hc, Hx, HT, HS, HA, HK⟩
  isplitl [HR]; · iexact HR
  isplitl [Hc]; · iexact Hc
  isplitl [Hg Hx HT HO]
  · isplitl [Hg Hx HT]
    · isplitl [Hg Hx]
      · isplitl [Hx]; · iexact Hx
        iexact Hg
      iexact HT
    isplitr; · rw [bigSep_empty]; iempintro
    iexact HO
  isplitl [Hz]; · iexact Hz
  isplitl [HS]; · iexact HS
  isplitl [HA]; · iexact HA
  iexact HK

theorem sort_copies (c : Dev nD) : iprop(records m K ∗ (xPiece m c c ∗ gFull m c c) ∗ R3 m c) ⊢ iprop(records m K ∗ Copies m c 0 ∗ R4 m c) := by
  unfold R3 R4
  iintro ⟨HR, Hc, HC, HF⟩
  isplitl [HR]; · iexact HR
  isplitl [HC]; · iexact HC
  isplitl [Hc]; · iexact Hc
  iexact HF

theorem sort_receive (c : Dev nD) : iprop(records m K ∗ Copies m c 31 ∗ R4 m c) ⊢ iprop(records m K ∗ Waiting m true c 0 ∗ R5 m c) := by
  unfold R4 R5 Copies Waiting Side Ats
  rw [rest_end, done_end, rest_zero, done_zero, owedSnd_end]
  iintro ⟨HR, ⟨-, Hcr, HO⟩, Hc, Hz, HS, HA, HK⟩
  isplitl [HR]; · iexact HR
  isplitl [HS HO]
  · isplitl [HS]; · iexact HS
    isplitr; · rw [bigSep_empty]; iempintro
    iexact HO
  isplitl [HA Hcr]
  · rw [bigSep_sep']
    isplitl [HA]; · iexact HA
    iexact Hcr
  isplitl [Hc]; · iexact Hc
  isplitl [Hz]; · iexact Hz
  iexact HK

theorem sort_product (c : Dev nD) : iprop(records m K ∗ Waiting m true c 31 ∗ R5 m c)
    ⊢ iprop(records m K ∗ (Operands m c ∗ ∃ f, (((c : Thread nD τ).loc cc0_stg4_0) ↦{fullShare} f)) ∗ R6 m c) := by
  unfold R5 R6 Waiting Operands Kept Closed
  rw [done_end]; simp only [bigSep_sep']
  iintro ⟨HR, ⟨-, ⟨Hp, Hv⟩, HO⟩, HS, ⟨Hx, Hg⟩, Hz, ⟨Hw, Hsx, Hsw⟩, Ho⟩
  ihave Hgs := (show (iprop(gFull m c c ∗ bigSep Finset.univ fun j : Dist => gFull m c (behind c j)) : sProp 𝕄) ⊢ _ from
    Entails.of_eq ((around_behind c (gFull m c)).symm.trans (g_split c (gathered m c)).symm)) $$ [Hg Hp]
  · isplitl [Hg]; · iexact Hg
    iexact Hp
  isplitl [HR]; · iexact HR
  isplitl [Hgs Hw Hsx Hsw Ho]
  · isplitr [Ho]
    · isplitl [Hgs]; · iexact Hgs
      isplitl [Hw]; · iexact Hw
      isplitl [Hsx]; · iexact Hsx
      iexact Hsw
    iexact Ho
  isplitl [HS]; · iexact HS
  isplitl [Hx]; · iexact Hx
  isplitl [Hz]; · iexact Hz
  isplitl [Hv]; · iexact Hv
  iexact HO

theorem sort_sent (c : Dev nD) : iprop(records m K ∗ (Operands m c ∗ (((c : Thread nD τ).loc cc0_stg4_0) ↦{fullShare} outRows m c)) ∗ R6 m c)
    ⊢ iprop(records m K ∗ Waiting m false c 0 ∗ R7 m c) := by
  unfold R6 R7 Waiting Side
  rw [rest_zero, done_zero]
  iintro ⟨HR, Hp, HS, Hx, Hz, Hv, HO⟩
  isplitl [HR]; · iexact HR
  isplitl [HS HO]
  · isplitl [HS]; · iexact HS
    isplitr; · rw [bigSep_empty]; iempintro
    iexact HO
  isplitl [Hp]; · iexact Hp
  isplitl [Hx]; · iexact Hx
  isplitl [Hz]; · iexact Hz
  iexact Hv

theorem sort_done (c : Dev nD) : iprop(records m K ∗ Waiting m false c 31 ∗ R7 m c) ⊢ Done m c := by
  unfold R7 Done Waiting Closed
  rw [done_end]; simp only [bigSep_sep']
  iintro ⟨-, ⟨-, ⟨Hp, Hv⟩, HO⟩, ⟨HP, Ho⟩, Hx, Hz, Hr⟩
  ihave Hxs := (show (iprop(xPiece m c c ∗ bigSep Finset.univ fun j : Dist => xPiece m c (ahead c j)) : sProp 𝕄) ⊢ _ from
    Entails.of_eq ((x_split m c).trans (around c _)).symm) $$ [Hx Hp]
  · isplitl [Hx]; · iexact Hx
    iexact Hp
  isplitl [Hxs]; · iexact Hxs
  isplitl [HP]; · iexact HP
  isplitl [Ho]; · iexact Ho
  isplitl [Hv Hr Hz]
  · isplitl [Hv]; · iexact Hv
    isplitl [Hr]; · iexact Hr
    iexact Hz
  iexact HO

end Cert.Exchange

end
-- ==== Proof.Body.lean ====
/-
# The run of one device

The rules of `Steps`, numbered by plain numbers, applied in the order of the program.
-/
module

public import proofs.«01_k».proof.Proof.Stages

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

variable (K : Dev nD × Kind → ℕ)

theorem signal_next (c n : Dev nD) {k : ℕ} (hk : k < 31) (hn : n.val = (c.val + (k + 1)) % 32) {a : ℤ} (ha : a = ((1 : ℕ) : ℤ))
    {α : Type} {R : sProp 𝕄} {Q : α → sProp 𝕄} {cont : PUnit → Prog (TpuEff nD τ sig (Elt F) Λ₀ .tc) α}
    (h : iprop(records m K ∗ Signals c (k + 1) ∗ R) ⊢ wpc c (cont ⟨⟩) Q) :
    iprop(records m K ∗ Signals c k ∗ R) ⊢ wpc c (.op (.semSignal (n : Thread nD τ) barS a) cont) Q :=
  signal_step m K c n ⟨k, hk⟩ (Fin.ext hn) ha h

theorem copy_next (c n : Dev nD) {k : ℕ} (hk : k < 31) (hn : n.val = (c.val + (k + 1)) % 32)
    {ox : Fin 2 → ℕ} {hx : ∀ a, ox a + S128x128.size a ≤ S4096x128.size a} (hox : ox = k0_off4 c (BitVec.ofNat 32 (1 + k)))
    {og : Fin 2 → ℕ} {hg : ∀ a, og a + S128x128.size a ≤ S128x4096.size a} (hog : og = k0_off3 c)
    {s1 s2 : DmaSem sig} (hs1 : s1 = sndS ⟨k, hk⟩) (hs2 : s2 = rcvS ⟨k, hk⟩)
    {hsc : ((gM.slice (Rect.unit (s := S128x4096) og S128x128.size hg) (fun _ => rfl) : Memref sig .tc .vmem S128x128 .i8) :
      Memref sig (Dev.tc n : Thread nD τ).2.kind .vmem S128x128 .i8).view.ref.isScScratch = false}
    {hsrc : (xM.slice (Rect.unit (s := S4096x128) ox S128x128.size hx) (fun _ => rfl) : Memref sig .tc .vmem S128x128 .i8).view.WordExact}
    {hdst : (gM.slice (Rect.unit (s := S128x4096) og S128x128.size hg) (fun _ => rfl) : Memref sig .tc .vmem S128x128 .i8).view.WordExact}
    {hsem : DmaTarget.Typed .vmem (.dma s2) (.remote (Dev.tc n : Thread nD τ)
      (gM.slice (Rect.unit (s := S128x4096) og S128x128.size hg) (fun _ => rfl) : Memref sig .tc .vmem S128x128 .i8) (.dma s1) hsc)}
    {α : Type} {R : sProp 𝕄} {Q : α → sProp 𝕄} {cont : PUnit → Prog (TpuEff nD τ sig (Elt F) Λ₀ .tc) α}
    (h : iprop(records m K ∗ Copies m c (k + 1) ∗ R) ⊢ wpc c (cont ⟨⟩) Q) :
    iprop(records m K ∗ Copies m c k ∗ R)
      ⊢ wpc c (.op (.enqueueDma (xM.slice (Rect.unit (s := S4096x128) ox S128x128.size hx) (fun _ => rfl))
          (.remote (Dev.tc n : Thread nD τ) (gM.slice (Rect.unit (s := S128x4096) og S128x128.size hg) (fun _ => rfl)) (.dma s1) hsc) (.dma s2) hsrc hdst hsem) cont) Q :=
  copy_step m K c n ⟨k, hk⟩ (Fin.ext hn) (hox.trans (x_off c ⟨k, hk⟩)) (hog.trans (g_off c)) hs1 hs2 h

theorem wait_next (b : Bool) (c : Dev nD) {k : ℕ} (hk : k < 31) {s : DmaSem sig} (hs : SemLoc.dma s = ksem (some (b, ⟨k, hk⟩)))
    {src dst : Memref sig .tc .vmem S128x128 .i8} {hsrc : src.view.WordExact} {hdst : dst.view.WordExact} (hN : dst.view.dmaCredit = N)
    {α : Type} {R : sProp 𝕄} {Q : α → sProp 𝕄} {cont : PUnit → Prog (TpuEff nD τ sig (Elt F) Λ₀ .tc) α}
    (h : iprop(records m K ∗ Waiting m b c (k + 1) ∗ R) ⊢ wpc c (cont ⟨⟩) Q) :
    iprop(records m K ∗ Waiting m b c k ∗ R) ⊢ wpc c (.op (.waitDma2 s src dst hsrc hdst) cont) Q :=
  wait_step m K b c ⟨k, hk⟩ hs hN h

theorem g_credit {o : Fin 2 → ℕ} (h : ∀ a, o a + S128x128.size a ≤ S128x4096.size a) :
    (gM.slice (Rect.unit (s := S128x4096) o S128x128.size h) (fun _ => rfl) : Memref sig .tc .vmem S128x128 .i8).view.dmaCredit = N := rfl
theorem x_credit {o : Fin 2 → ℕ} (h : ∀ a, o a + S128x128.size a ≤ S4096x128.size a) :
    (xM.slice (Rect.unit (s := S4096x128) o S128x128.size h) (fun _ => rfl) : Memref sig .tc .vmem S128x128 .i8).view.dmaCredit = N := rfl

set_option maxRecDepth 20000 in
set_option maxHeartbeats 1000000 in
theorem run_device (c : Dev nD) :
    iprop(records m K ∗ (Ghosts c ∗ owing c (O₀ c)) ∗ Buffers m c)
      ⊢ wpc c (cc0_body xM (Memref.isWhole_whole _) wM (Memref.isWhole_whole _) sxM (Memref.isWhole_whole _) swM (Memref.isWhole_whole _)
          oM (Memref.isWhole_whole _) gM (Memref.isWhole_whole _) cc0_scratch1 cc0_scratch2) fun _ => Done m c := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    semSignalWord, semWaitWord, smemLoad, smemLoadElt, Prog.lift, Prog.bind_op, Prog.bind_ret, Prog.pure_eq_ret, wp_deviceId]
  refine (sort_start m K c).trans ?_
  iterate 31 refine signal_next m K c _ (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]) rfl ?_
  refine (sort_barrier m K c).trans (barrier_step m K c rfl ?_)
  refine (sort_own m K c).trans (own_step m K c ?_)
  refine (sort_copies m K c).trans ?_
  iterate 31
    refine copy_next m K c _ ?_ ?_ ?_ ?_ ?_ ?_ ?_
    · decide
    · simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]
    · rfl
    · rfl
    · rfl
    · rfl
  refine (sort_receive m K c).trans ?_
  iterate 31
    refine wait_next m K true c ?_ ?_ (g_credit _) ?_
    · decide
    · decide
  refine (sort_product m K c).trans (product_step m K c ?_)
  refine (sort_sent m K c).trans ?_
  iterate 31
    refine wait_next m K false c ?_ ?_ (x_credit _) ?_
    · decide
    · decide
  refine (sort_done m K c).trans ?_
  unfold wpc
  rw [wp_ret]
  iintro H; imodintro; iexact H

end Cert.Exchange

end
-- ==== Proof.Point.lean ====
/-
# The body as the pipeline calls it

What the pipeline's one point starts from and leaves behind, and the library's body obligation.
-/
module

public import proofs.«01_k».proof.Proof.Body
public import proofs.«01_k».proof.Proof.Gen.KernelIdeal.Launch
public import proofs.«01_k».proof.Proof.Gen.KernelIdeal.Points

@[expose] public section

noncomputable section

namespace Cert.Exchange

open Cert.KernelIdeal Cert.KernelIdeal.Gen

open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-- The two semaphores at index 0 of the arrays, which the kernel never touches. -/
abbrev idleSem : Bool → SemLoc sig
  | false => .dma ⟨5, by decide⟩
  | true => .dma ⟨37, by decide⟩
/-- The kernel's own semaphores. -/
abbrev osem : Bool × Option Dist → SemLoc sig
  | (b, none) => idleSem b
  | (b, some k) => ksem (some (b, k))
def Idle (c : Dev nD) : sProp 𝕄 := bigSep Finset.univ fun b : Bool => semVal ((c : Thread nD τ), idleSem b) 0

/-- The ghost state at some names. -/
def Named (c : Dev nD) : sProp 𝕄 := iprop(∃ K, records m K ∗ Ghosts c)
def start (c : Dev nD) : sProp 𝕄 := iprop(Named m c ∗ Idle c)
def Φ₀ (c : Dev nD) : sProp 𝕄 := iprop(start m c ∗ ∃ f, ((c : Thread nD τ).loc cc0_scratch0) ↦{fullShare} f)
def Φ₁ (c : Dev nD) : sProp 𝕄 :=
  iprop((((c : Thread nD τ).loc cc0_scratch0) ↦{fullShare} gathered m c) ∗ (Closed false c ∗ Closed true c ∗ semVal (barCell c) 0) ∗ Idle c)

def dats (_ : Fin 1) (c : Dev nD) : Dat τ (Elt F) Unit ℕ UA ℕ cfg0 c where
  A w := m ((cfg0.win w).arr.view.loc (c : Thread nD τ))
  after w _ := match w with
    | ⟨0, _⟩ => shard m c
    | ⟨1, _⟩ => weights m c
    | ⟨2, _⟩ => scaleX m c
    | ⟨3, _⟩ => scaleW m c
    | ⟨4, _⟩ => outRows m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem own_of (c : Dev nD) (b : Ref sig .tc) (X : b.ty.Contents (Elt F)) :
    (iprop(∃ f : Buf (Elt F) ((c : Thread nD τ).loc b), ⌜f = X⌝ ∗ (((c : Thread nD τ).loc b) ↦{fullShare} f)) : sProp 𝕄) ⊢ ((c : Thread nD τ).loc b) ↦{fullShare} X := by
  iintro ⟨%f, %h, H⟩; subst h; iexact H
omit [FloatOps F] in
theorem of_own (c : Dev nD) (b : Ref sig .tc) (X : b.ty.Contents (Elt F)) :
    ((((c : Thread nD τ).loc b) ↦{fullShare} X) : sProp 𝕄) ⊢ iprop(∃ f : Buf (Elt F) ((c : Thread nD τ).loc b), ⌜f = X⌝ ∗ (((c : Thread nD τ).loc b) ↦{fullShare} f)) := by
  iintro H; iexists X
  isplitr; · ipureintro; rfl
  iexact H

omit [FloatOps F] in
/-- A whole buffer owned is the buffer at its contents. -/
theorem owns_all (c : Dev nD) (b : Ref sig .tc) (X : b.ty.Contents (Elt F)) :
    (owns (Ix := Unit) (Name := ℕ) (U := UA) (Lvl := ℕ) (c : Thread nD τ) (Memref.whole b) fullShare X : sProp 𝕄)
      = (((c : Thread nD τ).loc b) ↦{fullShare} X) := by
  unfold owns
  simp only [Memref.view_whole, View.read_whole, View.set_whole]
  refine Entails.antisymm (P := iprop(∃ f : Buf (Elt F) ((c : Thread nD τ).loc b), ⌜f = X⌝ ∗ (((c : Thread nD τ).loc b) ↦{fullShare} f))) (own_of c b X) (of_own c b X)

/-- What the windows hold when the body starts: the fetched blocks. -/
theorem before_x (c : Dev nD) (d) : (dats m 0 c).before (0 : Fin 5) t0_0 d = shard m c := by
  unfold Dat.before; rw [if_pos (fetch0_0 t0_0)]; rfl
theorem before_w (c : Dev nD) (d) : (dats m 0 c).before (1 : Fin 5) t0_0 d = weights m c := by
  unfold Dat.before; rw [if_pos (fetch0_1 t0_0)]; rfl
theorem before_sx (c : Dev nD) (d) : (dats m 0 c).before (2 : Fin 5) t0_0 d = scaleX m c := by
  unfold Dat.before; rw [if_pos (fetch0_2 t0_0)]; rfl
theorem before_sw (c : Dev nD) (d) : (dats m 0 c).before (3 : Fin 5) t0_0 d = scaleW m c := by
  unfold Dat.before; rw [if_pos (fetch0_3 t0_0)]; rfl

abbrev whole (c : Dev nD) (b : Ref sig .tc) (X : b.ty.Contents (Elt F)) : sProp 𝕄 :=
  owns (Ix := Unit) (Name := ℕ) (U := UA) (Lvl := ℕ) (c : Thread nD τ) (Memref.whole b) fullShare X

def Before (c : Dev nD) : sProp 𝕄 :=
  iprop(Φ₀ m c ∗ (dats m 0 c).owesAt () t0_0.castSucc
    ∗ (∃ d, whole c cc0_stg0_0 ((dats m 0 c).before (0 : Fin 5) t0_0 d)) ∗ (∃ d, whole c cc0_stg1_0 ((dats m 0 c).before (1 : Fin 5) t0_0 d))
    ∗ (∃ d, whole c cc0_stg2_0 ((dats m 0 c).before (2 : Fin 5) t0_0 d)) ∗ (∃ d, whole c cc0_stg3_0 ((dats m 0 c).before (3 : Fin 5) t0_0 d))
    ∗ (∃ d, whole c cc0_stg4_0 ((dats m 0 c).before (4 : Fin 5) t0_0 d)))
def After (c : Dev nD) : sProp 𝕄 :=
  iprop(Φ₁ m c ∗ (dats m 0 c).owesAt () t0_0.succ
    ∗ whole c cc0_stg0_0 (shard m c) ∗ whole c cc0_stg1_0 (weights m c) ∗ whole c cc0_stg2_0 (scaleX m c) ∗ whole c cc0_stg3_0 (scaleW m c)
    ∗ whole c cc0_stg4_0 (outRows m c))

theorem before_sorted (c : Dev nD) :
    Before m c ⊢ iprop(∃ K, (records m K ∗ (Ghosts c ∗ owing c (O₀ c)) ∗ Buffers m c) ∗ Idle c) := by
  unfold Before Φ₀ start Named Buffers Kept Dat.owesAt Pipeline.owesWithin owing whole
  simp only [before_x, before_w, before_sx, before_sw, owns_all]
  rw [show (dats m 0 c).owed t0_0.castSucc = O₀ c from rfl]
  iintro ⟨⟨⟨⟨%K, HR, HG⟩, HI⟩, Hscr⟩, ⟨%W, -, HO⟩, ⟨%d0, Hx⟩, ⟨%d1, Hw⟩, ⟨%d2, Hsx⟩, ⟨%d3, Hsw⟩, %d4, Ho⟩
  iexists K
  isplitr [HI]
  · isplitl [HR]; · iexact HR
    isplitl [HG HO]
    · isplitl [HG]; · iexact HG
      iexists W; iexact HO
    isplitl [Hx]; · iexact Hx
    isplitl [Hscr]; · iexact Hscr
    isplitr [Ho]
    · isplitl [Hw]; · iexact Hw
      isplitl [Hsx]; · iexact Hsx
      iexact Hsw
    iexists _; iexact Ho
  iexact HI

theorem after_sorted (c : Dev nD) : iprop(Done m c ∗ Idle c) ⊢ After m c := by
  unfold After Φ₁ Done Operands Dat.owesAt Pipeline.owesWithin owing whole
  simp only [owns_all]
  rw [show (dats m 0 c).owed t0_0.succ = 0 from rfl]
  iintro ⟨⟨Hx, ⟨Hg, Hw, Hsx, Hsw⟩, Ho, HC, %W, HO⟩, HI⟩
  isplitl [Hg HC HI]
  · isplitl [Hg]; · iexact Hg
    isplitl [HC]; · iexact HC
    iexact HI
  isplitl [HO]
  · iexists W
    isplitr; · ipureintro; exact fun _ _ => Or.inl trivial
    iexact HO
  isplitl [Hx]; · iexact Hx
  isplitl [Hw]; · iexact Hw
  isplitl [Hsx]; · iexact Hsx
  isplitl [Hsw]; · iexact Hsw
  iexact Ho

/-- The run, between what the pipeline holds before and after its point. -/
theorem run_point (c : Dev nD) : Before m c ⊢ wpc c (cc0_body xM (Memref.isWhole_whole _) wM (Memref.isWhole_whole _) sxM (Memref.isWhole_whole _) swM (Memref.isWhole_whole _)
          oM (Memref.isWhole_whole _) gM (Memref.isWhole_whole _) cc0_scratch1 cc0_scratch2) fun _ => After m c := by
  refine (before_sorted m c).trans (exists_elim fun K => ?_)
  refine (sep_mono_left (run_device m K c)).trans ?_
  exact (wp_frame_r _ _ _).trans (wp_mono _ _ _ fun _ => after_sorted m c)

set_option maxRecDepth 8000 in
/-- The library's body obligation. -/
theorem body_obligation (c : Dev nD) : BodyObligation (dats (F := F) m 0 c) (defs₀ (F := F)) 𝒱₀ () Set.univ := fun t => by
  rw [fin_N0 t, bigSep_W0, bigSep_W0]
  exact run_point m c

end Cert.Exchange

end
-- ==== Proof.Launch.lean ====
/-
# The launch

The cells' invariants allocated, the duties dealt to the devices that pay them, the credits counted, and the whole run.
-/
module

public import proofs.«01_k».proof.Proof.Point
public import Idealize.ShloMosaic.Lib.Pipeline.CollectiveSegs

@[expose] public section

noncomputable section

namespace Cert.Exchange

open Cert.KernelIdeal Cert.KernelIdeal.Gen

open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (m : (ℓ : Loc nD τ sig) → Buf (Elt F) ℓ)

/-! ## Families over the cells -/

omit [FloatOps F] in
theorem split_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext x; cases x <;> simp
  rw [h]
  exact (bigSep_insert (by simp)).trans (by rw [bigSep_map]; rfl)
omit [FloatOps F] in
theorem split_bool (Φ : Bool → sProp 𝕄) : bigSep Finset.univ Φ = iprop(Φ false ∗ Φ true) :=
  bigSep_univ_eq_bigSepL [false, true] (by decide) (by decide) Φ
omit [FloatOps F] in
theorem split_kind (Φ : Kind → sProp 𝕄) : bigSep Finset.univ Φ
    = iprop(Φ none ∗ (bigSep Finset.univ fun j => Φ (some (false, j))) ∗ bigSep Finset.univ fun j => Φ (some (true, j))) := by
  rw [split_option, bigSep_univ_prod, split_bool]

/-- The tokens minted: of a barrier cell one for each distance (`none`), of a send or receive cell one. -/
abbrev tok (x : Dev nD × Option Bool × Dist) : GSem nD τ sig × ℕ × Dist := match x with
  | (c, none, j) => (barCell c, 0, j)
  | (c, some b, k) => (kcell (c, some (b, k)), 0, 0)
theorem tok_injective : Function.Injective tok := by
  rintro ⟨c, _ | b, j⟩ ⟨c', _ | b', j'⟩ h
  · have h1 := kcell_injective (a₁ := (c, none)) (a₂ := (c', none)) (congrArg Prod.fst h)
    have h2 : j = j' := congrArg (fun x => x.2.2) h
    cases h1; rw [h2]
  · have h1 := kcell_injective (a₁ := (c, none)) (a₂ := (c', some (b', j'))) (congrArg Prod.fst h)
    cases h1
  · have h1 := kcell_injective (a₁ := (c, some (b, j))) (a₂ := (c', none)) (congrArg Prod.fst h)
    cases h1
  · have h1 := kcell_injective (a₁ := (c, some (b, j))) (a₂ := (c', some (b', j'))) (congrArg Prod.fst h)
    cases h1; rfl

def cellSet : Finset (GSem nD τ sig) := Finset.univ.map ⟨kcell, kcell_injective⟩
def tokSet : Finset (GSem nD τ sig × ℕ × Dist) := Finset.univ.map ⟨tok, tok_injective⟩
def u₀ : UA := (initOf (Pipeline.cells cfgs cellOf_inj) (Pipeline.launchToks cfgs cellOf_inj), initOf cellSet tokSet)

/-- The tokens of device `c`'s own cells, as minted. -/
def Minted (c : Dev nD) : sProp 𝕄 := bigSep Finset.univ fun x : Option Bool × Dist => dutyTok EX (tok (c, x)).1 (tok (c, x)).2.1 (tok (c, x)).2.2
/-- What the launch hands to device `c`. -/
def Dealt (c : Dev nD) : sProp 𝕄 :=
  iprop((bigSep Finset.univ fun k : Kind => roundState EX (sched m) (kcell (c, k)) 0) ∗ (bigSep Finset.univ fun k : Kind => reached EX (kcell (c, k)) 0)
    ∗ (bigSep Finset.univ fun k : Kind => atPos EX (kcell (c, k)) 0 ∅ 0) ∗ Minted c)
/-- The tokens device `c` pays with, and its positions. -/
def Linear (c : Dev nD) : sProp 𝕄 :=
  iprop(((bigSep Finset.univ fun j : Dist => dutyTok EX (barCell (ahead c j)) 0 j.rev) ∗ Toks c)
    ∗ (bigSep Finset.univ fun k : Kind => atPos EX (kcell (c, k)) 0 ∅ 0) ∗ Idle c)
def Ready (c : Dev nD) : sProp 𝕄 := iprop(∃ K, records m K ∗ Linear c)

omit [FloatOps F] in
theorem fund_cells : BI.own (EX (initOf cellSet tokSet)) ⊢ (|==> bigSep Finset.univ (Dealt m) : sProp 𝕄) := by
  have hC (Φ : GSem nD τ sig → sProp 𝕄) : bigSep cellSet Φ = bigSep Finset.univ fun c : Dev nD => bigSep Finset.univ fun k : Kind => Φ (kcell (c, k)) := by
    unfold cellSet; rw [bigSep_map, bigSep_univ_prod]; rfl
  have hT : bigSep tokSet (fun x => (dutyTok EX x.1 x.2.1 x.2.2 : sProp 𝕄)) = bigSep Finset.univ fun c : Dev nD => Minted c := by
    unfold tokSet Minted; rw [bigSep_map, bigSep_univ_prod]; rfl
  refine (Rounds.fund EX (sched m) cellSet tokSet).trans (BI.bupd_mono ?_)
  unfold Dealt
  rw [hC, hC, hC, hT]
  simp only [bigSep_sep']
  exact BI.Entails.refl _

/-! ## The tokens dealt -/

/-- Cell and distance of the device that waits, from those of the device that pays. -/
def payer : Dev nD × Dist ≃ Dev nD × Dist :=
  ⟨fun x => (ahead x.1 x.2, x.2), fun x => (behind x.1 x.2, x.2), fun x => Prod.ext (behind_ahead _ _) rfl, fun x => Prod.ext (ahead_behind _ _) rfl⟩
def signaller : Dev nD × Dist ≃ Dev nD × Dist :=
  ⟨fun x => (ahead x.1 x.2, x.2.rev), fun x => (behind x.1 x.2.rev, x.2.rev),
    fun x => Prod.ext (by show behind (ahead x.1 x.2) x.2.rev.rev = x.1; rw [Fin.rev_rev, behind_ahead]) (Fin.rev_rev _),
    fun x => Prod.ext (ahead_behind _ _) (Fin.rev_rev _)⟩

omit [FloatOps F] in
theorem deal (e : Dev nD × Dist ≃ Dev nD × Dist) (Φ : Dev nD → Dist → sProp 𝕄) :
    (bigSep Finset.univ fun c : Dev nD => bigSep Finset.univ fun j : Dist => Φ c j)
      = bigSep Finset.univ fun c : Dev nD => bigSep Finset.univ fun j : Dist => Φ (e (c, j)).1 (e (c, j)).2 := by
  rw [← bigSep_univ_prod (fun x : Dev nD × Dist => Φ x.1 x.2), bigSep_univ_equiv e, bigSep_univ_prod]

omit [FloatOps F] in
theorem deal_tokens : (bigSep Finset.univ fun c : Dev nD => (Minted c : sProp 𝕄))
    ⊢ bigSep Finset.univ fun c : Dev nD => iprop((bigSep Finset.univ fun j : Dist => dutyTok EX (barCell (ahead c j)) 0 j.rev) ∗ Toks c) := by
  have h : ∀ c : Dev nD, (Minted c : sProp 𝕄) = iprop((bigSep Finset.univ fun j : Dist => dutyTok EX (barCell c) 0 j)
      ∗ (bigSep Finset.univ fun j : Dist => dutyTok EX (sndCell c j) 0 (0 : Dist)) ∗ bigSep Finset.univ fun j : Dist => dutyTok EX (rcvCell c j) 0 (0 : Dist)) := fun c => by
    unfold Minted; rw [bigSep_univ_prod, split_option, split_bool]
  unfold Toks
  simp only [h, bigSep_sep']
  rw [deal signaller (fun c j => dutyTok EX (barCell c) 0 j), deal payer (fun c j => dutyTok EX (rcvCell c j) 0 (0 : Dist))]
  exact BI.Entails.refl _

/-! ## The invariants -/

omit [FloatOps F] in
theorem own_values_to (i₀ i₁ S R B : sProp 𝕄) : iprop(((i₀ ∗ S) ∗ i₁ ∗ R) ∗ B) ⊢ iprop((B ∗ S ∗ R) ∗ i₀ ∗ i₁) := by
  iintro ⟨⟨⟨H0, HS⟩, H1, HR⟩, HB⟩
  isplitr [H0 H1]
  · isplitl [HB]; · iexact HB
    isplitl [HS] <;> iassumption
  isplitl [H0] <;> iassumption
omit [FloatOps F] in
theorem own_values_from (i₀ i₁ S R B : sProp 𝕄) : iprop((B ∗ S ∗ R) ∗ i₀ ∗ i₁) ⊢ iprop(((i₀ ∗ S) ∗ i₁ ∗ R) ∗ B) := by
  iintro ⟨⟨HB, HS, HR⟩, H0, H1⟩
  isplitr [HB]
  · isplitl [H0 HS]
    · isplitl [H0] <;> iassumption
    isplitl [H1] <;> iassumption
  iexact HB
omit [FloatOps F] in
theorem own_values (c : Dev nD) :
    iprop(Pipeline.ownSems0 (Ix := Unit) (Name := ℕ) (U := UA) (Lvl := ℕ) (Val := Elt F) (τ := τ) osem c ∗ unscopedSems0 c)
      = (iprop((bigSep Finset.univ fun k : Kind => semVal (kcell (c, k)) 0) ∗ Idle c) : sProp 𝕄) := by
  have hu : (unscopedSems0 c : sProp 𝕄) = semVal (barCell c) 0 := by
    unfold unscopedSems0; rw [bigSep_eq_bigSepL_of_eq [SemLoc.reg barS] (by decide) (by decide)]; rfl
  rw [hu, split_kind]
  unfold Pipeline.ownSems0 Idle
  rw [bigSep_univ_prod, split_bool, split_bool, split_option, split_option]
  apply BI.Entails.antisymm
  · exact own_values_to _ _ _ _ _
  · exact own_values_from _ _ _ _ _

omit [FloatOps F] in
theorem allocate (c : Dev nD) :
    iprop((bigSep Finset.univ fun k : Kind => semVal (kcell (c, k)) 0) ∗ (bigSep Finset.univ fun k : Kind => roundState EX (sched m) (kcell (c, k)) 0))
      ⊢ (|={Set.univ}=> bigSep Finset.univ fun k : Kind => iprop(∃ κ : ℕ, cellInv EX (sched m) κ (kcell (c, k))) : sProp 𝕄) := by
  rw [← bigSep_sep']
  exact (bigSep_mono fun k _ => (Rounds.body_intro EX (sched m) (kcell (c, k))).trans inv_alloc).trans (bigSep_fupd _ _)

omit [FloatOps F] in
/-- Every device's semaphores and what it was dealt become the records and what it pays with. -/
theorem dealt_out (c : Dev nD) :
    iprop(Pipeline.ownSems0 (Ix := Unit) (Name := ℕ) (U := UA) (Lvl := ℕ) (Val := Elt F) (τ := τ) osem c ∗ unscopedSems0 c ∗ Dealt m c)
      ⊢ (|={Set.univ}=> iprop((bigSep Finset.univ fun k : Kind => iprop(∃ κ : ℕ, cellInv EX (sched m) κ (kcell (c, k))))
          ∗ (bigSep Finset.univ fun k : Kind => reached EX (kcell (c, k)) 0) ∗ Minted c
          ∗ (bigSep Finset.univ fun k : Kind => atPos EX (kcell (c, k)) 0 ∅ 0) ∗ Idle c) : sProp 𝕄) := by
  unfold Dealt
  iintro ⟨Ho, Hu, Hst, Hr, Hat, Ht⟩
  ihave Hv := (Entails.of_eq (own_values (F := F) c)) $$ [Ho Hu]
  · isplitl [Ho] <;> iassumption
  icases Hv with ⟨Hv, HI⟩
  imod (allocate m c) $$ [Hv Hst] with Hinv
  · isplitl [Hv] <;> iassumption
  imodintro
  isplitl [Hinv]; · iexact Hinv
  isplitl [Hr]; · iexact Hr
  isplitl [Ht]; · iexact Ht
  isplitl [Hat] <;> iassumption

omit [FloatOps F] in
theorem ready_intro (K : Dev nD × Kind → ℕ) (c : Dev nD) : iprop(records m K ∗ Linear c) ⊢ Ready m c := by
  unfold Ready
  iintro H; iexists K; iexact H

omit [FloatOps F] in
theorem share_records (K : Dev nD × Kind → ℕ) : iprop(records m K ∗ bigSep Finset.univ fun c : Dev nD => Linear c) ⊢ bigSep Finset.univ (Ready m) := by
  refine (sep_mono_left (BI.bigSep_of_persistent (Finset.univ : Finset (Dev nD)) (records m K))).trans ?_
  rw [← bigSep_sep']
  exact bigSep_mono fun c _ => ready_intro m K c

omit [FloatOps F] in
theorem linear_of : iprop((bigSep Finset.univ fun c : Dev nD => iprop((bigSep Finset.univ fun j : Dist => dutyTok EX (barCell (ahead c j)) 0 j.rev) ∗ Toks c))
      ∗ bigSep Finset.univ fun c : Dev nD => iprop((bigSep Finset.univ fun k : Kind => atPos EX (kcell (c, k)) 0 ∅ 0) ∗ Idle c))
    ⊢ (bigSep Finset.univ fun c : Dev nD => Linear c : sProp 𝕄) := by
  unfold Linear
  exact Entails.of_eq (bigSep_sep' _ _ _).symm

omit [FloatOps F] in
theorem gather :
    (bigSep Finset.univ fun c : Dev nD => iprop((bigSep Finset.univ fun k : Kind => iprop(∃ κ : ℕ, cellInv EX (sched m) κ (kcell (c, k))))
          ∗ (bigSep Finset.univ fun k : Kind => reached EX (kcell (c, k)) 0) ∗ Minted c
          ∗ (bigSep Finset.univ fun k : Kind => atPos EX (kcell (c, k)) 0 ∅ 0) ∗ Idle c) : sProp 𝕄)
      ⊢ bigSep Finset.univ (Ready m) := by
  rw [bigSep_sep', bigSep_sep', bigSep_sep', ← bigSep_univ_prod (fun ck : Dev nD × Kind => iprop(∃ κ : ℕ, cellInv EX (sched m) κ (kcell ck))),
    ← bigSep_univ_prod (fun ck : Dev nD × Kind => (reached EX (kcell ck) 0 : sProp 𝕄))]
  iintro ⟨HI, Hr, Ht, HL⟩
  ihave HK := (BI.bigSep_exists_pi Finset.univ (fun (ck : Dev nD × Kind) (κ : ℕ) => (cellInv EX (sched m) κ (kcell ck) : sProp 𝕄))) $$ HI
  icases HK with ⟨%K, HI⟩
  ihave Ht := (deal_tokens (F := F)) $$ Ht
  iapply (share_records m K)
  isplitl [HI Hr]
  · unfold records
    isplitl [HI] <;> iassumption
  iapply (linear_of (F := F))
  isplitl [Ht] <;> iassumption

omit [FloatOps F] in
theorem set_up : (bigSep Finset.univ fun c => iprop(Pipeline.ownSems0 (Ix := Unit) (Name := ℕ) (U := UA) (Lvl := ℕ) (Val := Elt F) (τ := τ) osem c
      ∗ unscopedSems0 c ∗ Dealt m c) : sProp 𝕄) ⊢ |={Set.univ}=> bigSep Finset.univ (Ready m) :=
  ((bigSep_mono fun c _ => dealt_out m c).trans (bigSep_fupd _ _)).trans (BI.fupd_mono (gather m))

/-! ## The credits -/

theorem bar_ne_rcv (c d : Dev nD) (j : Dist) : barCell c ≠ rcvCell d j := fun h => by
  cases kcell_injective (a₁ := (c, none)) (a₂ := (d, some (true, j))) h
theorem bar_iff (c d : Dev nD) (j : Dist) : barCell c = barCell (ahead d j) ↔ d = behind c j := by
  constructor
  · intro h
    have h1 := congrArg Prod.fst (kcell_injective (a₁ := (c, none)) (a₂ := (ahead d j, none)) h)
    rw [show c = ahead d j from h1, behind_ahead]
  · rintro rfl; rw [ahead_behind]
theorem rcv_iff (c d : Dev nD) (k j : Dist) : rcvCell c k = rcvCell (ahead d j) j ↔ j = k ∧ d = behind c k := by
  constructor
  · intro h
    have h0 := kcell_injective (a₁ := (c, some (true, k))) (a₂ := (ahead d j, some (true, j))) h
    have h1 : c = ahead d j := congrArg Prod.fst h0
    have h2 : k = j := by simpa using congrArg Prod.snd h0
    subst h2
    exact ⟨rfl, by rw [h1, behind_ahead]⟩
  · rintro ⟨rfl, rfl⟩; rw [ahead_behind]

theorem owed_bar (c d : Dev nD) : O₀ d (barCell c) () = ∑ j : Dist, if d = behind c j then 1 else 0 := by
  unfold O₀ owedBar owedSnd
  rw [rest_zero, Pi.add_apply, Finsupp.add_apply, sum_tally_apply, sum_tally_apply, Finset.sum_eq_zero fun j _ => if_neg (bar_ne_rcv c _ j), Nat.zero_add]
  exact Finset.sum_congr rfl fun j _ => if_congr (bar_iff c d j) rfl rfl
theorem owed_rcv (c d : Dev nD) (k : Dist) : O₀ d (rcvCell c k) () = if d = behind c k then N else 0 := by
  unfold O₀ owedBar owedSnd
  rw [rest_zero, Pi.add_apply, Finsupp.add_apply, sum_tally_apply, sum_tally_apply, Finset.sum_eq_zero (f := fun j => if rcvCell c k = barCell _ then 1 else 0)
    fun j _ => if_neg (bar_ne_rcv _ c k).symm, Nat.add_zero, Finset.sum_congr rfl fun j _ => if_congr (rcv_iff c d k j) rfl rfl]
  by_cases h : d = behind c k
  · simp [h]
  · simp [h]

theorem credit_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm,
    Finset.sum_congr rfl fun j _ => Finset.sum_ite_eq' Finset.univ (behind c j) fun _ => 1]
  simp
theorem credit_rcv (c : Dev nD) (k : Dist) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv c d k,
    Finset.sum_ite_eq' Finset.univ (behind c k) fun _ => N, if_pos (Finset.mem_univ _)]

/-- The semaphores a device has credit for at launch. -/
abbrev owedSem : Option Dist → SemLoc sig
  | none => ksem none
  | some k => ksem (some (true, k))
theorem owedSem_injective : Function.Injective owedSem := by
  rintro (_ | k) (_ | k') h
  · rfl
  · cases ksem_injective (a₁ := none) (a₂ := some (true, k')) h
  · cases ksem_injective (a₁ := some (true, k)) (a₂ := none) h
  · cases ksem_injective (a₁ := some (true, k)) (a₂ := some (true, k')) h; rfl

omit [FloatOps F] in
theorem credits (c : Dev nD) :
    (Pipeline.launchCred O₀ c : sProp 𝕄) ⊢ iprop(cred (tallyAt (barCell c) () 31) ∗ bigSep Finset.univ fun k : Dist => cred (tallyAt (rcvCell c k) () N)) := by
  unfold Pipeline.launchCred
  refine (bigSep_subset (Finset.subset_univ (Finset.univ.map ⟨owedSem, owedSem_injective⟩))).trans ?_
  rw [bigSep_map, split_option]
  exact BIClass.sep_mono (Entails.of_eq (congrArg cred (credit_bar c)))
    (Entails.of_eq (bigSep_congr fun k _ => congrArg cred (credit_rcv c k)))

/-! ## The launch theorem's side conditions -/

theorem own_facts : Pipeline.OwnSemFacts cfg0.spec osem := by decide

theorem share_full (c : Dev nD) (w : Fin cfg0.W) : (dats m 0 c).share w = fullShare := by unfold Dat.share; split <;> rfl

theorem start_of_ready (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ready m c)
      ⊢ |={Set.univ}=> iprop(start m c ∗ emp) := by
  unfold Ready Linear
  iintro ⟨-, Hlev, Hcr, -, %K, HR, ⟨Hb, HT⟩, Hat, HI⟩
  ihave Hc := (credits (F := F) c) $$ Hcr
  icases Hc with ⟨Hcb, Hcr⟩
  ihave Hat := (Entails.of_eq (split_kind (F := F) fun k => atPos EX (kcell (c, k)) 0 ∅ 0)) $$ Hat
  icases Hat with ⟨Hab, Has, Har⟩
  imodintro
  unfold start Named
  isplitl
  · isplitr [HI]
    · iexists K
      isplitl [HR]; · iexact HR
      unfold Ghosts Bar Side Ats
      isplitl [Hb]; · iexact Hb
      isplitl [Hab Hcb Hlev]
      · isplitl [Hab]; · iexact Hab
        isplitl [Hcb] <;> iassumption
      isplitl [HT]; · iexact HT
      isplitl [Har Hcr]
      · rw [bigSep_sep']
        isplitl [Har] <;> iassumption
      iexact Has
    iexact HI
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ Closed
  iintro ⟨Hg, ⟨Hs, Hr, Hb⟩, HI⟩
  ihave H := (Entails.of_eq (own_values (F := F) c).symm) $$ [Hs Hr Hb HI]
  · isplitr [HI]
    · rw [split_kind]
      isplitl [Hb]; · iexact Hb
      isplitl [Hs] <;> iassumption
    iexact HI
  icases H with ⟨Ho, Hu⟩
  isplitl [Hu]; · iexact Hu
  isplitl [Ho]; · iexact Ho
  iexists (gathered m c); iexact Hg

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution of the exchange on the mesh terminates, each array at
    `finalA` and every counter at zero. -/
theorem run_main (ρ : Dev nD → PrngReg) : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EPipe defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := Dealt m) (G' := Ready m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_of_ready m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Results.lean ====
/-
# What the run leaves, array by array

Each window is its whole array, so the four argument arrays end as they began and the result array of device `c` ends at
`outRows m c`.
-/
module

public import proofs.«01_k».proof.Proof.Launch

@[expose] public section

noncomputable section

namespace Cert.Exchange

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ)

omit [FloatOps F] in
/-- The staged operands are the argument arrays. -/
theorem shard_eq (c : Dev nD) : shard m c = m ((c : Thread nD τ).loc main_arg0) :=
  Memref.read_access_unit_zero (Elt F) main_arg0 (funext fun a => by fin_cases a <;> rfl) (fun a => by fin_cases a <;> decide) _
omit [FloatOps F] in
theorem weights_eq (c : Dev nD) : weights m c = m ((c : Thread nD τ).loc main_arg1) :=
  Memref.read_access_unit_zero (Elt F) main_arg1 (funext fun a => by fin_cases a <;> rfl) (fun a => by fin_cases a <;> decide) _
omit [FloatOps F] in
theorem scaleX_eq (c : Dev nD) : scaleX m c = m ((c : Thread nD τ).loc main_arg2) :=
  Memref.read_access_unit_zero (Elt F) main_arg2 (funext fun a => by fin_cases a <;> rfl) (fun a => by fin_cases a <;> decide) _
omit [FloatOps F] in
theorem scaleW_eq (c : Dev nD) : scaleW m c = m ((c : Thread nD τ).loc main_arg3) :=
  Memref.read_access_unit_zero (Elt F) main_arg3 (funext fun a => by fin_cases a <;> rfl) (fun a => by fin_cases a <;> decide) _

/-- An argument array ends as it began. -/
theorem final_arg (c : Dev nD) (w : Fin cfg0.W) (hw : (cfg0.win w).isOut = false) :
    finalA m c w = m ((cfg0.win w).arr.view.loc (c : Thread nD τ)) :=
  (dats (F := F) m 0 c).arrAt_in w hw _

/-- The result array ends at the device's rows. -/
theorem final_result (c : Dev nD) : finalA m c 4 = outRows m c := by
  have h : ((cfg0.win (4 : Fin 5)).blk t0_0).view.read (Elt F) (finalA m c 4) = outRows m c := by
    unfold finalA
    rw [show cfg0.N = (t0_0 : Fin cfg0.N).val + 1 from rfl, (dats (F := F) m 0 c).arrAt_succ (4 : Fin 5) t0_0, if_pos (flush0_4 t0_0)]
    exact View.read_write_univ _ _
  rw [← h]
  exact (Memref.read_access_unit_zero (Elt F) main_v1 (funext fun a => by fin_cases a <;> rfl) (fun a => by fin_cases a <;> decide) _).symm

/-- The run, with its arrays named: the arguments unchanged, device `c`'s rows in the result, and every counter at zero. -/
theorem run_arrays (ρ : Dev nD → PrngReg) :
    θ_run defs (onTc (τ := τ) (main (F := F))) ⟨m, fun _ => 0, ρ⟩ (fun r =>
      (∀ c : Dev nD, r.2.mem ((c : Thread nD τ).loc main_v1) = outRows m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  (θ_run defs _ _).mono (fun r h => ⟨fun c =>
      ⟨(h.1 c 4).trans (final_result m c), (h.1 c 0).trans (final_arg m c 0 rfl), (h.1 c 1).trans (final_arg m c 1 rfl),
        (h.1 c 2).trans (final_arg m c 2 rfl), (h.1 c 3).trans (final_arg m c 3 rfl)⟩, h.2⟩)
    (run_main m ρ)

end Cert.Exchange

end
-- ==== Proof.Magnitudes.lean ====
/-
# What the precondition says of one device's blocks

Where `products_exact` holds of a device's blocks there is a top magnitude of its weights, and each row of its columns has a
total magnitude which, taken that many times, stays within 524287.
-/
module

public import proofs.«01_k».proof.Defs
public import proofs.«01_k».proof.Proof.Gen.Pre_products_exact_KernelIdeal
public import Idealize.ShloMosaic.Lib.StableHlo.Predicate
public import Idealize.ShloMosaic.Lib.SortNet.Extract
public import Idealize.ShloMosaic.Lib.ValueIdxCore

@[expose] public section

noncomputable section

namespace Cert.Magnitudes

open Cert.Pre_products_exact_KernelIdeal
open Idealize.ShloMosaic
open Idealize.ShloMosaic.ValueIdx
open Idealize.ShloMosaic.StableHlo.Predicate

/-- The magnitude word of an operand word. -/
def mag (b : BitVec 8) : BitVec 32 := IntOp.absi (b.signExtend 32)

theorem mag_toNat : ∀ b : BitVec 8, (mag b).toNat = b.toInt.natAbs := by decide
theorem natAbs_le : ∀ b : BitVec 8, b.toInt.natAbs ≤ 128 := by decide
theorem mag_toInt (b : BitVec 8) : (mag b).toInt = (b.toInt.natAbs : ℤ) := by
  have h := natAbs_le b
  have h' := mag_toNat b
  rw [toInt_eq_toNat_of_lt (by omega), h']

variable {F : FTy → Type} [FloatOps F]
variable (x : IVec S4096x128 8) (w : IVec S4096x8192 8) (sx sw : FVec F S1 .f32)

/-- The total magnitude of a row. -/
def rowTotal (r : Fin 4096) : ℕ := ∑ l : Fin 128, (x (ix2 r l)).toInt.natAbs

theorem rowTotal_le (r : Fin 4096) : rowTotal x r ≤ 16384 :=
  (Finset.sum_le_card_nsmul Finset.univ _ 128 (fun l _ => natAbs_le _)).trans (by simp)

/-- The row totals as the predicate takes them. -/
def totals : IVec S4096 32 :=
  Host.reduce IntOp.addi (absi (extsi 32 x Facts.natLt_8_32)) (constantI S_ 32 0#32) Facts.reducesTo_S4096x128_S4096_d1 Facts.h_S_

/-- The greatest magnitude as the predicate takes it. -/
def top : IVec S_ 32 :=
  Host.reduce IntOp.maxsi (absi (extsi 32 w Facts.natLt_8_32)) (constantI S_ 32 2147483648#32) Facts.reducesTo_S4096x8192_S_d0_1 Facts.h_S_

theorem reduces_cols : S4096x128.Reduces [1] S4096 := by decide

theorem totals_toNat (j : S4096.Idx) : (totals x j).toNat = rowTotal x (j 0) := by
  have e : totals x j = (Finset.univ : Finset (Fin 128)).fold IntOp.addi 0#32 (fun l => mag (x (ix2 (j 0) l))) := by
    unfold totals
    rw [Host.reduce_eq_fold_single IntOp.addi _ _ _ reduces_cols]
    refine congrArg (fun f => Finset.fold IntOp.addi 0#32 f (Finset.univ : Finset (Fin 128))) (funext fun l => ?_)
    show mag (x (reduces_cols.lift j l)) = _
    refine congrArg (fun i => mag (x i)) (funext fun a => Fin.ext ?_)
    match a with
    | ⟨0, _⟩ => rfl
    | ⟨1, _⟩ => rfl
  have hs : ∑ l : Fin 128, (mag (x (ix2 (j 0) l))).toNat = rowTotal x (j 0) :=
    Finset.sum_congr rfl fun l _ => mag_toNat _
  have hb := rowTotal_le x (j 0)
  rw [e, toNat_fold_addi _ _ (by rw [hs]; omega), hs]

/-- The greatest magnitude is at least each weight's, and is no more than 128. -/
theorem top_spec (j : S_.Idx) : (top w j).toNat ≤ 128 ∧ ∀ i, (w i).toInt.natAbs ≤ (top w j).toNat := by
  have e : top w j = (Finset.univ.filter fun i => (Facts.reducesTo_S4096x8192_S_d0_1).drop i = j).fold IntOp.maxsi
      2147483648#32 (fun i => mag (w i)) := by
    unfold top
    rw [Host.reduce_eq_fold]
    rfl
  have hall : ∀ i : S4096x8192.Idx, i ∈ Finset.univ.filter fun i => (Facts.reducesTo_S4096x8192_S_d0_1).drop i = j := fun i =>
    Finset.mem_filter.mpr ⟨Finset.mem_univ _, funext fun a => a.elim0⟩
  obtain ⟨-, h2, h3⟩ := SortNet.fold_maxsi_spec (fun i => mag (w i))
    (Finset.univ.filter fun i => (Facts.reducesTo_S4096x8192_S_d0_1).drop i = j) 2147483648#32
  rw [← e] at h2 h3
  have hle : ∀ i, ((w i).toInt.natAbs : ℤ) ≤ (top w j).toInt := fun i => by
    have h := h2 i (hall i)
    rwa [mag_toInt] at h
  have h0 := hle (ix2 0 0)
  have hup : (top w j).toNat ≤ 128 := by
    rcases h3 with h3 | ⟨i, -, h3⟩
    · rw [h3] at h0
      have : (2147483648#32).toInt = -2147483648 := by decide
      omega
    · rw [h3, mag_toNat]; exact natAbs_le _
  refine ⟨hup, fun i => ?_⟩
  have h := hle i
  rw [toInt_eq_toNat_of_lt (by omega)] at h
  exact_mod_cast h

/-- The precondition, read. -/
theorem bound (h : Cert.Pre_products_exact_KernelIdeal.fn x w sx sw = fun _ => 1#1) :
    ∃ t : ℕ, (∀ i, (w i).toInt.natAbs ≤ t) ∧ ∀ r, rowTotal x r * t ≤ 524287 := by
  refine ⟨(top w (Shape.Idx.first Facts.h_S_)).toNat, (top_spec w _).2, fun r => ?_⟩
  have ht : broadcastInDim S4096 ![] Facts.bcast_S_S4096 (top w) (ix1 r) = top w (Shape.Idx.first Facts.h_S_) :=
    congrArg (top w) (funext fun a => a.elim0)
  have hT : IntOp.cmpi .sle (totals x (ix1 r) * broadcastInDim S4096 ![] Facts.bcast_S_S4096 (top w) (ix1 r)) 524287#32 = 1#1 :=
    congrFun h (ix1 r)
  rw [ht] at hT
  have h1 := totals_toNat x (ix1 r)
  have h2 := (top_spec w (Shape.Idx.first Facts.h_S_)).1
  have h3 := rowTotal_le x r
  have hm : (totals x (ix1 r)).toNat * (top w (Shape.Idx.first Facts.h_S_)).toNat ≤ 16384 * 128 :=
    Nat.mul_le_mul (h1.trans_le h3) h2
  have hmul : (totals x (ix1 r) * top w (Shape.Idx.first Facts.h_S_)).toNat
      = (totals x (ix1 r)).toNat * (top w (Shape.Idx.first Facts.h_S_)).toNat := by
    rw [BitVec.toNat_mul]; exact Nat.mod_eq_of_lt (by omega)
  have hr := (sle_iff_toNat (by rw [hmul]; omega) (by decide)).mp hT
  rw [hmul, h1] at hr
  exact hr

end Cert.Magnitudes

end
-- ==== Proof.Whole.lean ====
/-
# The whole product, on the extended reals

What the reference computes, element by element: the integer product, scaled, and cut at zero.
-/
module

public import proofs.«01_k».proof.Proof.Gen.ReferenceIdeal
public import Idealize.ShloMosaic.Lib.ValueIdxCore
public import Idealize.ShloMosaic.PureOps.Ideal.Laws

@[expose] public section

noncomputable section

namespace Cert.Product

open Cert.ReferenceIdeal Cert.ReferenceIdeal.Gen
open Idealize.ShloMosaic
open Idealize.ShloMosaic.ValueIdx

/-- The contraction of all rows. -/
abbrev wholeDims := dot_S4096x4096_S4096x8192_S4096x8192_1_0_0_1_n_n

section Sums
variable {M : Type} [AddCommMonoid M]

theorem sum_whole (f : Cert.ReferenceIdeal.S4096x4096.Idx → Cert.ReferenceIdeal.S4096x8192.Idx → M) (r : Fin 4096) (n : Fin 8192) :
    ∑ k : wholeDims.contr.Idx, f (wholeDims.lhsIdx (ix2 r n) k) (wholeDims.rhsIdx (ix2 r n) k)
      = ∑ k : Fin 4096, f (ix2 r k) (ix2 k n) := by
  rw [← Equiv.sum_comp (contrEquiv1 wholeDims 4096 rfl rfl).symm]
  refine Finset.sum_congr rfl fun k _ => ?_
  have hk := contrEquiv1_symm_val wholeDims 4096 rfl rfl k
  refine congrArg₂ f (funext fun a => Fin.ext ?_) (funext fun a => Fin.ext ?_)
  · match a with
    | ⟨0, _⟩ => rfl
    | ⟨1, _⟩ => exact hk
  · match a with
    | ⟨0, _⟩ => exact hk
    | ⟨1, _⟩ => rfl

end Sums

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Element `(r, n)` of the scaled product of `g` and `w`, as an extended real. -/
def scaled {R : Nat} (g : (⟨2, ![R, 4096]⟩ : Shape).Idx → BitVec 8) (w : (⟨2, ![4096, 8192]⟩ : Shape).Idx → BitVec 8) (a b : EReal)
    (r : Fin R) (n : Fin 8192) : EReal :=
  max ((((∑ k : Fin 4096, (g (ix2 r k)).toInt * (w (ix2 k n)).toInt : ℤ) : ℝ) : EReal) * (a * b)) 0

/-- The whole product, as the reference computes it. -/
def whole (x : IVec S4096x4096 8) (w : IVec S4096x8192 8)
    (a b : FVec Ideal S1 .f32) : FVec Ideal S4096x8192 .f32 :=
  maximumf (mulf (Host.dotGeneral wholeDims none (sitofp .f32 (extsi 32 x natLt_8_32)) (sitofp .f32 (extsi 32 w natLt_8_32)))
      (broadcastInDim S4096x8192 ![0, 1] bcast_S1x1_S4096x8192_0_1 (broadcastInDim S1x1 ![1] bcast_S1_S1x1_1 (mulf a b))))
    (broadcastInDim S4096x8192 ![] bcast_S_S4096x8192 (constant S_ .f32 0x00000000#32))

theorem whole_value (x : IVec S4096x4096 8) (w : IVec S4096x8192 8)
    (a b : FVec Ideal S1 .f32) (r : Fin 4096) (n : Fin 8192) :
    whole x w a b (ix2 r n) = scaled x w (a (ix1 0)) (b (ix1 0)) r n := by
  have hx : ∀ v : BitVec 8, ((v.signExtend 32).toInt : ℤ) = v.toInt := fun v => BitVec.toInt_signExtend_of_le (by decide)
  have hd : Host.dotGeneral (F := Ideal) wholeDims none (sitofp .f32 (extsi 32 x natLt_8_32))
      (sitofp .f32 (extsi 32 w natLt_8_32)) (ix2 r n)
      = (((∑ k : Fin 4096, (x (ix2 r k)).toInt * (w (ix2 k n)).toInt : ℤ) : ℝ) : EReal) := by
    simp only [Host.dotGeneral]
    rw [Ideal.dotGeneral_apply]
    rw [sum_whole (fun i j => (sitofp (F := Ideal) .f32 (extsi 32 x natLt_8_32)) i
      * (sitofp (F := Ideal) .f32 (extsi 32 w natLt_8_32)) j) r n, Int.cast_sum, coe_sum]
    refine Finset.sum_congr rfl fun k _ => ?_
    rw [Int.cast_mul, EReal.coe_mul, ← hx (x _), ← hx (w _)]
    rfl
  have hs : ∀ i : S1.Idx, i = ix1 0 := fun i => by
    rw [eq_ix1 i]; exact congrArg ix1 (Subsingleton.elim (α := Fin 1) _ _)
  have hb : broadcastInDim S4096x8192 ![0, 1] bcast_S1x1_S4096x8192_0_1
      (broadcastInDim S1x1 ![1] bcast_S1_S1x1_1 (mulf a b)) (ix2 r n)
      = (a (ix1 0) * b (ix1 0) : EReal) :=
    congrArg (mulf a b) (hs _)
  unfold scaled
  rw [← hd, ← hb, ← Ideal.ofBits_zero_f32]
  rfl

end Cert.Product

end
-- ==== Proof.Product.lean ====
/-
# The product of a device's rows, on the extended reals

The integer product of rows whose products' magnitudes total at most 2²⁴ − 1 is the exact integer; scaled and cut at zero
it is what the whole product holds on those rows.
-/
module

public import proofs.«01_k».proof.Proof.Results
public import proofs.«01_k».proof.Proof.Magnitudes
public import proofs.«01_k».proof.Proof.Whole
public import Idealize.ShloMosaic.PureOps.Ideal.Laws
public import Idealize.ShloMosaic.Lib.IntMxu
public import Idealize.ShloMosaic.Lib.Pipeline.Value
public import Idealize.ShloMosaic.Lib.Layout

@[expose] public section

noncomputable section

namespace Cert.Product

open Cert.KernelIdeal Cert.KernelIdeal.Gen Cert.Exchange
open Idealize.ShloMosaic
open Idealize.ShloMosaic.TcCoe
open Idealize.ShloMosaic.ValueIdx

/-- The contraction of 128 rows. -/
abbrev rowsDims := dot_S128x4096_S4096x8192_S128x8192_1_0_0_1_n_n

section Sums
variable {M : Type} [AddCommMonoid M]

theorem sum_rows (f : S128x4096.Idx → S4096x8192.Idx → M) (r : Fin 128) (n : Fin 8192) :
    ∑ k : rowsDims.contr.Idx, f (rowsDims.lhsIdx (ix2 r n) k) (rowsDims.rhsIdx (ix2 r n) k)
      = ∑ k : Fin 4096, f (ix2 r k) (ix2 k n) := by
  rw [← Equiv.sum_comp (contrEquiv1 rowsDims 4096 rfl rfl).symm]
  refine Finset.sum_congr rfl fun k _ => ?_
  have hk := contrEquiv1_symm_val rowsDims 4096 rfl rfl k
  refine congrArg₂ f (funext fun a => Fin.ext ?_) (funext fun a => Fin.ext ?_)
  · match a with
    | ⟨0, _⟩ => rfl
    | ⟨1, _⟩ => exact hk
  · match a with
    | ⟨0, _⟩ => exact hk
    | ⟨1, _⟩ => rfl

/-- The contracted position of column `l` of device `d`'s part. -/
def pos (d : Fin 32) (l : Fin 128) : Fin 4096 := ⟨128 * d.val + l.val, by omega⟩

/-- A sum over the contracted positions, device by device. -/
theorem sum_parts (f : Fin 4096 → M) : ∑ k, f k = ∑ d : Fin 32, ∑ l : Fin 128, f (pos d l) := by
  rw [← Fintype.sum_prod_type', ← Equiv.sum_comp (finProdFinEquiv (m := 32) (n := 128)) f]
  refine Finset.sum_congr rfl fun p _ => congrArg f (Fin.ext ?_)
  show p.2.val + 128 * p.1.val = 128 * p.1.val + p.2.val
  omega

end Sums

/-- A device's rows, where its products are within the exact range. -/
theorem rows_value (g : IVec S128x4096 8) (w : IVec S4096x8192 8) (a b : Ideal .f32) (r : Fin 128) (n : Fin 8192)
    (h : absDotI8 rowsDims g w (ix2 r n) ≤ 2 ^ 24 - 1) :
    k0_pay3 (F := Ideal) (k0_pay2 (F := Ideal) g w) a b (ix2 r n) = scaled g w a b r n := by
  have e : (k0_pay2 (F := Ideal) g w (ix2 r n)).toInt = dotI8 rowsDims g w (ix2 r n) := by
    unfold k0_pay2
    rw [shapeCast_self]
    exact matmulI8_toInt IntMxuNumerics.v7x rowsDims g w _ (ix2 r n) rfl h
  have s : dotI8 rowsDims g w (ix2 r n) = ∑ k : Fin 4096, (g (ix2 r k)).toInt * (w (ix2 k n)).toInt :=
    sum_rows (fun i j => (g i).toInt * (w j).toInt) r n
  unfold scaled
  rw [← s, ← e, ← Ideal.ofBits_zero_f32]
  rfl

section Rows
variable (m : (ℓ : Loc nD τ sig) → Buf (Elt Ideal) ℓ)

/-- Row `r` of device `c`'s rows, among all rows. -/
def rowOf (c : Dev nD) (r : Fin 128) : Fin 4096 := ⟨128 * c.val + r.val, by have := dev_lt c; omega⟩

/-- The operand's columns of one device, and a device's weights. -/
abbrev cols (c : Dev nD) : IVec S4096x128 8 := m ((c : Thread nD τ).loc main_arg0)
abbrev wts (c : Dev nD) : IVec S4096x8192 8 := m ((c : Thread nD τ).loc main_arg1)

theorem gathered_pos (c : Dev nD) (r : Fin 128) (d : Fin 32) (l : Fin 128) :
    gathered m c (ix2 r (pos d l)) = cols m d (ix2 (rowOf c r) l) := by
  unfold gathered
  rw [shard_eq]
  have hd : fromDev (ix2 r (pos d l)) = d := Fin.ext (by
    show (128 * d.val + l.val) / 128 = d.val
    omega)
  rw [hd]
  refine congrArg (cols m d) (funext fun a => Fin.ext ?_)
  match a with
  | ⟨0, _⟩ => rfl
  | ⟨1, _⟩ =>
    show (128 * d.val + l.val) % 128 = l.val
    omega

/-- The magnitudes of a result element's products total at most 32 · 524287. -/
theorem products_le (w : IVec S4096x8192 8) (hw : ∀ d, wts m d = w)
    (hp : ∀ d : Dev nD, ∃ t : ℕ, (∀ i, (wts m d i).toInt.natAbs ≤ t) ∧ ∀ r, Cert.Magnitudes.rowTotal (cols m d) r * t ≤ 524287)
    (c : Dev nD) (r : Fin 128) (n : Fin 8192) :
    absDotI8 rowsDims (gathered m c) w (ix2 r n) ≤ 2 ^ 24 - 1 := by
  have e : absDotI8 rowsDims (gathered m c) w (ix2 r n)
      = ∑ k : Fin 4096, ((gathered m c (ix2 r k)).toInt * (w (ix2 k n)).toInt).natAbs :=
    sum_rows (fun i j => ((gathered m c i).toInt * (w j).toInt).natAbs) r n
  rw [e, sum_parts]
  have part : ∀ d : Fin 32, ∑ l : Fin 128, ((gathered m c (ix2 r (pos d l))).toInt * (w (ix2 (pos d l) n)).toInt).natAbs ≤ 524287 := by
    intro d
    obtain ⟨t, ht, hr⟩ := hp d
    refine le_trans (Finset.sum_le_sum fun l _ => ?_) ((Finset.sum_mul _ _ _).symm.trans_le (hr (rowOf c r)))
    rw [Int.natAbs_mul, gathered_pos]
    exact Nat.mul_le_mul_left _ (by rw [← hw d]; exact ht _)
  exact (Finset.sum_le_card_nsmul Finset.univ _ 524287 (fun d _ => part d)).trans (by simp)

/-- Device `c`'s rows are block `c` of the whole product. -/
theorem rows_eq_block (X : IVec Cert.ReferenceIdeal.S4096x4096 8) (W : IVec Cert.ReferenceIdeal.S4096x8192 8)
    (A B : FVec Ideal Cert.ReferenceIdeal.S1 .f32)
    (hX : ∀ c : Dev nD, cols m c = Layout.block ⟨2, ![4096, 128]⟩ ⟨2, ![4096, 4096]⟩ 1 32 c X)
    (hW : ∀ c : Dev nD, wts m c = W)
    (hA : ∀ c : Dev nD, m ((c : Thread nD τ).loc main_arg2) = A) (hB : ∀ c : Dev nD, m ((c : Thread nD τ).loc main_arg3) = B)
    (hp : ∀ d : Dev nD, ∃ t : ℕ, (∀ i, (wts m d i).toInt.natAbs ≤ t) ∧ ∀ r, Cert.Magnitudes.rowTotal (cols m d) r * t ≤ 524287)
    (c : Dev nD) :
    outRows m c = Layout.block ⟨2, ![128, 8192]⟩ ⟨2, ![4096, 8192]⟩ 0 32 c (whole X W A B) := by
  funext j
  obtain ⟨r, n, rfl⟩ : ∃ r n, j = ix2 r n := ⟨j 0, j 1, eq_ix2 j⟩
  have hb : (Layout.block ⟨2, ![128, 8192]⟩ ⟨2, ![4096, 8192]⟩ 0 32 c (whole X W A B)) (ix2 r n) = whole X W A B (ix2 (rowOf c r) n) := by
    rw [Layout.block_apply]
    refine congrArg (whole X W A B) (funext fun a => Fin.ext ?_)
    match a with
    | ⟨0, _⟩ =>
      show c.val * 128 + r.val = 128 * c.val + r.val
      omega
    | ⟨1, _⟩ => rfl
  have hg : ∀ k : Fin 4096, gathered m c (ix2 r k) = X (ix2 (rowOf c r) k) := by
    intro k
    obtain ⟨d, l, rfl⟩ : ∃ d l, k = pos d l := ⟨⟨k.val / 128, by omega⟩, ⟨k.val % 128, by omega⟩, Fin.ext (by
      show k.val = 128 * (k.val / 128) + k.val % 128
      omega)⟩
    rw [gathered_pos, hX, Layout.block_apply]
    refine congrArg X (funext fun a => Fin.ext ?_)
    match a with
    | ⟨0, _⟩ => rfl
    | ⟨1, _⟩ =>
      show d.val * 128 + l.val = 128 * d.val + l.val
      omega
  have ho : (oneIdx : S1.Idx) = ix1 0 := (idx_one (ix1 0)).symm
  rw [hb, whole_value]
  unfold outRows
  rw [weights_eq, scaleX_eq, scaleW_eq, hA, hB, ho]
  rw [show m ((c : Thread nD τ).loc main_arg1) = W from hW c]
  rw [rows_value (gathered m c) W (A (ix1 0)) (B (ix1 0)) r n (products_le m W hW hp c r n)]
  unfold scaled
  simp only [hg]

end Rows

end Cert.Product

end
-- ==== Proof.Same.lean ====
/-
# The two programs are one text

The kernel and its idealization print alike; their body tables agree label by label.
-/
module

public import proofs.«01_k».proof.Proof.Gen.Kernel
public import proofs.«01_k».proof.Proof.Gen.KernelIdeal

@[expose] public section

noncomputable section

namespace Cert.Same

open Idealize.ShloMosaic

variable {F : FTy → Type} [FloatOps F]

theorem bodies_eq : Cert.Kernel.cc0_body (F := F) = Cert.KernelIdeal.cc0_body (F := F) := rfl

theorem tables_eq : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) (funext fun l => funext fun a => ?_)
  match l, a with
  | 0, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) tables_eq

theorem main_eq : Cert.Kernel.main (F := F) = Cert.KernelIdeal.main (F := F) := rfl

end Cert.Same

end
-- ==== Proof.lean ====
/-
# The claims

The kernel's run is proved once, for any floats (Proof/Results.lean): every device's result array ends at its rows, the
arguments end unchanged and every counter reads zero. The frames are that run with the result forgotten; the value claim
adds that the rows are a block of the whole product (Proof/Product.lean).
-/
module

public import proofs.«01_k».proof.Defs
public import proofs.«01_k».proof.Proof.Product
public import proofs.«01_k».proof.Proof.Same
public import proofs.«01_k».proof.Proof.Gen.Kernel
public import proofs.«01_k».proof.Proof.Gen.ReferenceIdeal
public import proofs.«01_k».proof.Proof.Gen.ReferenceIdeal.Run
public import proofs.«01_k».proof.Proof.Gen.Pre_products_exact_KernelIdeal
public import proofs.«01_k».proof.Proof.Gen.Pre_products_exact_ReferenceIdeal
public import Idealize.ShloMosaic.Adequacy
public import Idealize.ShloMosaic.Init

@[expose] public section

noncomputable section

namespace Cert.Proof

open Idealize.ShloMosaic Idealize.ShloMosaic.TcCoe Idealize.SL.Sem

/-- The frame, over any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Exchange.run_arrays m ρ)

theorem frame_kernel : Cert.quiescent_Kernel := by
  intro m ρ _
  rw [Cert.Same.defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal_pre_products_exact_KernelIdeal := by
  intro m g m' g' hpre hargs
  refine ⟨Cert.Product.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩)
      (Cert.Exchange.run_arrays (F := Ideal) m g)
    exact Cert.Product.rows_eq_block m _ _ _ _ (fun d => (hargs d).1) (fun d => (hargs d).2.1) (fun d => (hargs d).2.2.1)
      (fun d => (hargs d).2.2.2) (fun d => Cert.Magnitudes.bound _ _ _ _ (hpre d)) c
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    Cert.Pre_products_exact_KernelIdeal.Gen.facts, Cert.Pre_products_exact_ReferenceIdeal.Gen.facts,
    frame_kernel, frame_ideal, fun m ρ _ => frame_ideal m ρ trivial, frame_reference,
    fun m ρ _ => frame_reference m ρ trivial, trivial, value⟩

end Cert.Proof

end
